-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x520x520 : Shape := ⟨4, ![16, 3, 520, 520]⟩
abbrev S520x32 : Shape := ⟨2, ![520, 32]⟩
abbrev S32x520 : Shape := ⟨2, ![32, 520]⟩
abbrev S16x3x8x8x128 : Shape := ⟨5, ![16, 3, 8, 8, 128]⟩
abbrev S1x3x520x520 : Shape := ⟨4, ![1, 3, 520, 520]⟩
abbrev S1x3x8x8x128 : Shape := ⟨5, ![1, 3, 8, 8, 128]⟩
abbrev S1x1x520x520 : Shape := ⟨4, ![1, 1, 520, 520]⟩
abbrev S520x520 : Shape := ⟨2, ![520, 520]⟩
abbrev S520x519 : Shape := ⟨2, ![520, 519]⟩
abbrev S520x1 : Shape := ⟨2, ![520, 1]⟩
abbrev S519x520 : Shape := ⟨2, ![519, 520]⟩
abbrev S1x520 : Shape := ⟨2, ![1, 520]⟩
abbrev S32x32 : Shape := ⟨2, ![32, 32]⟩
abbrev S1x32x32 : Shape := ⟨3, ![1, 32, 32]⟩
abbrev S8x32x32 : Shape := ⟨3, ![8, 32, 32]⟩
abbrev S8x8x4x32 : Shape := ⟨4, ![8, 8, 4, 32]⟩
abbrev S8x8x1x32 : Shape := ⟨4, ![8, 8, 1, 32]⟩
abbrev S8x8x32 : Shape := ⟨3, ![8, 8, 32]⟩
abbrev S8x8x128 : Shape := ⟨3, ![8, 8, 128]⟩
abbrev S8x8x128x1 : Shape := ⟨4, ![8, 8, 128, 1]⟩
abbrev S8x8 : Shape := ⟨2, ![8, 8]⟩
abbrev S8x8x1 : Shape := ⟨3, ![8, 8, 1]⟩
abbrev S1x1x8x8x128 : Shape := ⟨5, ![1, 1, 8, 8, 128]⟩

abbrev nBuf : Space → Nat
  | .hbm => 6
  | .vmem => 6
  | .smem => 0
  | _ => 0

abbrev bufTy : (tb : Table) → Fin (tcTables nBuf tb) → BufTy
  | .hbm, ⟨0, _⟩ => ⟨S16x3x520x520, .f32⟩
  | .hbm, ⟨1, _⟩ => ⟨S520x32, .f32⟩
  | .hbm, ⟨2, _⟩ => ⟨S32x520, .f32⟩
  | .hbm, ⟨3, _⟩ => ⟨S520x32, .bf16⟩
  | .hbm, ⟨4, _⟩ => ⟨S32x520, .bf16⟩
  | .hbm, ⟨5, _⟩ => ⟨S16x3x8x8x128, .f32⟩
  | .local _ .vmem, ⟨0, _⟩ => ⟨S1x3x520x520, .f32⟩
  | .local _ .vmem, ⟨1, _⟩ => ⟨S1x3x520x520, .f32⟩
  | .local _ .vmem, ⟨2, _⟩ => ⟨S520x32, .bf16⟩
  | .local _ .vmem, ⟨3, _⟩ => ⟨S32x520, .bf16⟩
  | .local _ .vmem, ⟨4, _⟩ => ⟨S1x3x8x8x128, .f32⟩
  | .local _ .vmem, ⟨5, _⟩ => ⟨S1x3x8x8x128, .f32⟩
  | _, _ => ⟨S16x3x520x520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x3x520x520 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S520x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x520 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x3x520x520 : Shape := ⟨4, ![16, 3, 520, 520]⟩
abbrev S4x65 : Shape := ⟨2, ![4, 65]⟩
abbrev S16x3x8x65x8x65 : Shape := ⟨6, ![16, 3, 8, 65, 8, 65]⟩
abbrev S16x3x8x8x65x65 : Shape := ⟨6, ![16, 3, 8, 8, 65, 65]⟩
abbrev S1024x3x65x65 : Shape := ⟨4, ![1024, 3, 65, 65]⟩
abbrev S1024x3x1x65 : Shape := ⟨4, ![1024, 3, 1, 65]⟩
abbrev S1024x3x67x65 : Shape := ⟨4, ![1024, 3, 67, 65]⟩
abbrev S1024x3x67x1 : Shape := ⟨4, ![1024, 3, 67, 1]⟩
abbrev S1024x3x67x67 : Shape := ⟨4, ![1024, 3, 67, 67]⟩
abbrev S_ : Shape := ⟨0, ![]⟩
abbrev S1024x3x65x65x1 : Shape := ⟨5, ![1024, 3, 65, 65, 1]⟩
abbrev S1x1x1x1x8 : Shape := ⟨5, ![1, 1, 1, 1, 8]⟩
abbrev S1024x3x65x65x8 : Shape := ⟨5, ![1024, 3, 65, 65, 8]⟩
abbrev S1024x3x8x65x65 : Shape := ⟨5, ![1024, 3, 8, 65, 65]⟩
abbrev S4x1024x3x8x65 : Shape := ⟨5, ![4, 1024, 3, 8, 65]⟩
abbrev S4x1024x3x8x4 : Shape := ⟨5, ![4, 1024, 3, 8, 4]⟩
abbrev S1024x3x8x4x4 : Shape := ⟨5, ![1024, 3, 8, 4, 4]⟩
abbrev S1024x3x128 : Shape := ⟨3, ![1024, 3, 128]⟩
abbrev S1024x3 : Shape := ⟨2, ![1024, 3]⟩
abbrev S1024x3x1 : Shape := ⟨3, ![1024, 3, 1]⟩
abbrev S16x3x8x8x128 : Shape := ⟨5, ![16, 3, 8, 8, 128]⟩

abbrev nBuf : Space → Nat
  | .hbm => 187
  | .vmem => 0
  | .smem => 0
  | _ => 0

abbrev hbmTy0_0 (i : Nat) : BufTy := match i % 128 with
  | 0 => ⟨S16x3x520x520, .f32⟩
  | 1 => ⟨S4x65, .f32⟩
  | 2 => ⟨S4x65, .f32⟩
  | 3 => ⟨S16x3x8x65x8x65, .f32⟩
  | 4 => ⟨S16x3x8x8x65x65, .f32⟩
  | 5 => ⟨S1024x3x65x65, .f32⟩
  | 6 => ⟨S1024x3x1x65, .f32⟩
  | 7 => ⟨S1024x3x1x65, .f32⟩
  | 8 => ⟨S1024x3x67x65, .f32⟩
  | 9 => ⟨S1024x3x67x1, .f32⟩
  | 10 => ⟨S1024x3x67x1, .f32⟩
  | 11 => ⟨S1024x3x67x67, .f32⟩
  | 12 => ⟨S1024x3x65x65, .f32⟩
  | 13 => ⟨S1024x3x65x65, .f32⟩
  | 14 => ⟨S1024x3x65x65, .f32⟩
  | 15 => ⟨S_, .f32⟩
  | 16 => ⟨S1024x3x65x65, .f32⟩
  | 17 => ⟨S1024x3x65x65, .f32⟩
  | 18 => ⟨S1024x3x65x65, .f32⟩
  | 19 => ⟨S1024x3x65x65, .f32⟩
  | 20 => ⟨S1024x3x65x65, .f32⟩
  | 21 => ⟨S_, .f32⟩
  | 22 => ⟨S1024x3x65x65, .f32⟩
  | 23 => ⟨S1024x3x65x65, .f32⟩
  | 24 => ⟨S1024x3x65x65, .f32⟩
  | 25 => ⟨S1024x3x65x65, .f32⟩
  | 26 => ⟨S1024x3x65x65, .f32⟩
  | 27 => ⟨S_, .f32⟩
  | 28 => ⟨S1024x3x65x65, .f32⟩
  | 29 => ⟨S1024x3x65x65, .f32⟩
  | 30 => ⟨S1024x3x65x65, .f32⟩
  | 31 => ⟨S_, .f32⟩
  | 32 => ⟨S1024x3x65x65, .f32⟩
  | 33 => ⟨S1024x3x65x65, .f32⟩
  | 34 => ⟨S1024x3x65x65, .f32⟩
  | 35 => ⟨S1024x3x65x65, .f32⟩
  | 36 => ⟨S1024x3x65x65, .f32⟩
  | 37 => ⟨S1024x3x65x65, .f32⟩
  | 38 => ⟨S_, .f32⟩
  | 39 => ⟨S1024x3x65x65, .f32⟩
  | 40 => ⟨S1024x3x65x65, .f32⟩
  | 41 => ⟨S1024x3x65x65, .f32⟩
  | 42 => ⟨S1024x3x65x65, .f32⟩
  | 43 => ⟨S_, .f32⟩
  | 44 => ⟨S1024x3x65x65, .f32⟩
  | 45 => ⟨S1024x3x65x65, .f32⟩
  | 46 => ⟨S_, .f32⟩
  | 47 => ⟨S1024x3x65x65, .f32⟩
  | 48 => ⟨S1024x3x65x65, .f32⟩
  | 49 => ⟨S1024x3x65x65, .f32⟩
  | 50 => ⟨S_, .f32⟩
  | 51 => ⟨S1024x3x65x65, .f32⟩
  | 52 => ⟨S1024x3x65x65, .f32⟩
  | 53 => ⟨S1024x3x65x65, .f32⟩
  | 54 => ⟨S_, .f32⟩
  | 55 => ⟨S1024x3x65x65, .f32⟩
  | 56 => ⟨S1024x3x65x65, .f32⟩
  | 57 => ⟨S1024x3x65x65, .f32⟩
  | 58 => ⟨S_, .f32⟩
  | 59 => ⟨S1024x3x65x65, .f32⟩
  | 60 => ⟨S1024x3x65x65, .f32⟩
  | 61 => ⟨S1024x3x65x65, .f32⟩
  | 62 => ⟨S1024x3x65x65, .i1⟩
  | 63 => ⟨S_, .f32⟩
  | 64 => ⟨S1024x3x65x65, .f32⟩
  | 65 => ⟨S1024x3x65x65, .f32⟩
  | 66 => ⟨S1024x3x65x65, .f32⟩
  | 67 => ⟨S_, .f32⟩
  | 68 => ⟨S1024x3x65x65, .f32⟩
  | 69 => ⟨S1024x3x65x65, .i1⟩
  | 70 => ⟨S_, .f32⟩
  | 71 => ⟨S1024x3x65x65, .f32⟩
  | 72 => ⟨S1024x3x65x65, .f32⟩
  | 73 => ⟨S1024x3x65x65, .f32⟩
  | 74 => ⟨S_, .f32⟩
  | 75 => ⟨S1024x3x65x65, .f32⟩
  | 76 => ⟨S1024x3x65x65, .i1⟩
  | 77 => ⟨S_, .f32⟩
  | 78 => ⟨S1024x3x65x65, .f32⟩
  | 79 => ⟨S1024x3x65x65, .f32⟩
  | 80 => ⟨S1024x3x65x65, .f32⟩
  | 81 => ⟨S1024x3x65x65, .i1⟩
  | 82 => ⟨S_, .i32⟩
  | 83 => ⟨S_, .i32⟩
  | 84 => ⟨S1024x3x65x65, .i32⟩
  | 85 => ⟨S1024x3x65x65, .i32⟩
  | 86 => ⟨S1024x3x65x65, .i32⟩
  | 87 => ⟨S_, .f32⟩
  | 88 => ⟨S1024x3x65x65, .f32⟩
  | 89 => ⟨S1024x3x65x65, .i1⟩
  | 90 => ⟨S_, .i32⟩
  | 91 => ⟨S1024x3x65x65, .i32⟩
  | 92 => ⟨S1024x3x65x65, .i32⟩
  | 93 => ⟨S1024x3x65x65, .i32⟩
  | 94 => ⟨S_, .f32⟩
  | 95 => ⟨S1024x3x65x65, .f32⟩
  | 96 => ⟨S1024x3x65x65, .i1⟩
  | 97 => ⟨S_, .i32⟩
  | 98 => ⟨S1024x3x65x65, .i32⟩
  | 99 => ⟨S1024x3x65x65, .i32⟩
  | 100 => ⟨S1024x3x65x65, .i32⟩
  | 101 => ⟨S1024x3x65x65, .f32⟩
  | 102 => ⟨S1024x3x65x65, .f32⟩
  | 103 => ⟨S_, .i32⟩
  | 104 => ⟨S1024x3x65x65, .i32⟩
  | 105 => ⟨S1024x3x65x65, .i32⟩
  | 106 => ⟨S_, .i32⟩
  | 107 => ⟨S_, .i32⟩
  | 108 => ⟨S_, .i1⟩
  | 109 => ⟨S_, .i32⟩
  | 110 => ⟨S_, .i32⟩
  | 111 => ⟨S1024x3x65x65, .i32⟩
  | 112 => ⟨S1024x3x65x65, .i32⟩
  | 113 => ⟨S_, .i32⟩
  | 114 => ⟨S1024x3x65x65, .i32⟩
  | 115 => ⟨S1024x3x65x65, .i1⟩
  | 116 => ⟨S_, .i32⟩
  | 117 => ⟨S1024x3x65x65, .i32⟩
  | 118 => ⟨S1024x3x65x65, .i1⟩
  | 119 => ⟨S_, .i32⟩
  | 120 => ⟨S_, .i1⟩
  | 121 => ⟨S1024x3x65x65, .i1⟩
  | 122 => ⟨S1024x3x65x65, .i1⟩
  | 123 => ⟨S1024x3x65x65, .i1⟩
  | 124 => ⟨S1024x3x65x65, .i32⟩
  | 125 => ⟨S1024x3x65x65, .i32⟩
  | 126 => ⟨S1024x3x65x65, .i32⟩
  | 127 => ⟨S1024x3x65x65x1, .i32⟩
  | _ => ⟨S16x3x520x520, .f32⟩

abbrev hbmTy0_1 (i : Nat) : BufTy := match i % 128 with
  | 0 => ⟨S1x1x1x1x8, .i32⟩
  | 1 => ⟨S1024x3x65x65x1, .i32⟩
  | 2 => ⟨S1024x3x65x65x8, .i32⟩
  | 3 => ⟨S1024x3x65x65x8, .i32⟩
  | 4 => ⟨S1024x3x65x65x8, .i1⟩
  | 5 => ⟨S1024x3x65x65x8, .f32⟩
  | 6 => ⟨S_, .f32⟩
  | 7 => ⟨S1024x3x65x65, .f32⟩
  | 8 => ⟨S1024x3x65x65, .f32⟩
  | 9 => ⟨S1024x3x65x65, .f32⟩
  | 10 => ⟨S1024x3x65x65x1, .f32⟩
  | 11 => ⟨S1024x3x65x65x8, .f32⟩
  | 12 => ⟨S1024x3x65x65x8, .f32⟩
  | 13 => ⟨S1024x3x65x65x1, .i32⟩
  | 14 => ⟨S1x1x1x1x8, .i32⟩
  | 15 => ⟨S1024x3x65x65x1, .i32⟩
  | 16 => ⟨S1024x3x65x65x8, .i32⟩
  | 17 => ⟨S1024x3x65x65x8, .i32⟩
  | 18 => ⟨S1024x3x65x65x8, .i1⟩
  | 19 => ⟨S1024x3x65x65x8, .f32⟩
  | 20 => ⟨S1024x3x65x65, .f32⟩
  | 21 => ⟨S1024x3x65x65x1, .f32⟩
  | 22 => ⟨S1024x3x65x65x8, .f32⟩
  | 23 => ⟨S1024x3x65x65x8, .f32⟩
  | 24 => ⟨S1024x3x65x65x8, .f32⟩
  | 25 => ⟨S1024x3x8x65x65, .f32⟩
  | 26 => ⟨S4x1024x3x8x65, .f32⟩
  | 27 => ⟨S4x1024x3x8x4, .f32⟩
  | 28 => ⟨S1024x3x8x4x4, .f32⟩
  | 29 => ⟨S1024x3x128, .f32⟩
  | 30 => ⟨S1024x3x128, .f32⟩
  | 31 => ⟨S_, .f32⟩
  | 32 => ⟨S1024x3, .f32⟩
  | 33 => ⟨S1024x3x1, .f32⟩
  | 34 => ⟨S1024x3x1, .f32⟩
  | 35 => ⟨S_, .f32⟩
  | 36 => ⟨S1024x3x1, .f32⟩
  | 37 => ⟨S1024x3x1, .f32⟩
  | 38 => ⟨S1024x3x128, .f32⟩
  | 39 => ⟨S1024x3x128, .f32⟩
  | 40 => ⟨S_, .f32⟩
  | 41 => ⟨S_, .f32⟩
  | 42 => ⟨S_, .f32⟩
  | 43 => ⟨S1024x3x128, .f32⟩
  | 44 => ⟨S1024x3x128, .f32⟩
  | 45 => ⟨S_, .f32⟩
  | 46 => ⟨S1024x3x128, .f32⟩
  | 47 => ⟨S1024x3x128, .f32⟩
  | 48 => ⟨S1024x3x128, .f32⟩
  | 49 => ⟨S_, .f32⟩
  | 50 => ⟨S1024x3, .f32⟩
  | 51 => ⟨S1024x3x1, .f32⟩
  | 52 => ⟨S1024x3x1, .f32⟩
  | 53 => ⟨S_, .f32⟩
  | 54 => ⟨S1024x3x1, .f32⟩
  | 55 => ⟨S1024x3x1, .f32⟩
  | 56 => ⟨S1024x3x128, .f32⟩
  | 57 => ⟨S1024x3x128, .f32⟩
  | 58 => ⟨S16x3x8x8x128, .f32⟩
  | _ => ⟨S16x3x520x520, .f32⟩

abbrev hbmTy (i : Nat) : BufTy := match i / 128 with
  | 0 => hbmTy0_0 i
  | 1 => hbmTy0_1 i
  | _ => ⟨S16x3x520x520, .f32⟩

abbrev bufTy : (tb : Table) → Fin (tcTables nBuf tb) → BufTy
  | .hbm, ⟨i, _⟩ => hbmTy i
  | _, _ => ⟨S16x3x520x520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_6 : Ref sig .tc := ⟨.hbm, 43, rfl⟩
abbrev main_v35 : Ref sig .tc := ⟨.hbm, 44, rfl⟩
abbrev main_v36 : Ref sig .tc := ⟨.hbm, 45, rfl⟩
abbrev main_cst_7 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_8 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_9 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_10 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_11 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_12 : Ref sig .tc := ⟨.hbm, 67, rfl⟩
abbrev main_v53 : Ref sig .tc := ⟨.hbm, 68, rfl⟩
abbrev main_v54 : Ref sig .tc := ⟨.hbm, 69, rfl⟩
abbrev main_cst_13 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_14 : Ref sig .tc := ⟨.hbm, 74, rfl⟩
abbrev main_v58 : Ref sig .tc := ⟨.hbm, 75, rfl⟩
abbrev main_v59 : Ref sig .tc := ⟨.hbm, 76, rfl⟩
abbrev main_cst_15 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c : Ref sig .tc := ⟨.hbm, 82, rfl⟩
abbrev main_c_16 : Ref sig .tc := ⟨.hbm, 83, rfl⟩
abbrev main_call3_v0 : Ref sig .tc := ⟨.hbm, 84, rfl⟩
abbrev main_call3_v1 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_c_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_19 : Ref sig .tc := ⟨.hbm, 94, rfl⟩
abbrev main_v70 : Ref sig .tc := ⟨.hbm, 95, rfl⟩
abbrev main_v71 : Ref sig .tc := ⟨.hbm, 96, rfl⟩
abbrev main_c_20 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_21 : Ref sig .tc := ⟨.hbm, 103, rfl⟩
abbrev main_v77 : Ref sig .tc := ⟨.hbm, 104, rfl⟩
abbrev main_v78 : Ref sig .tc := ⟨.hbm, 105, rfl⟩
abbrev main_c_22 : Ref sig .tc := ⟨.hbm, 106, rfl⟩
abbrev main_call6_c : Ref sig .tc := ⟨.hbm, 107, rfl⟩
abbrev main_call6_v0 : Ref sig .tc := ⟨.hbm, 108, rfl⟩
abbrev main_call6_c_0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_c_1 : Ref sig .tc := ⟨.hbm, 113, rfl⟩
abbrev main_call6_v4 : Ref sig .tc := ⟨.hbm, 114, rfl⟩
abbrev main_call6_v5 : Ref sig .tc := ⟨.hbm, 115, rfl⟩
abbrev main_call6_c_2 : Ref sig .tc := ⟨.hbm, 116, rfl⟩
abbrev main_call6_v6 : Ref sig .tc := ⟨.hbm, 117, rfl⟩
abbrev main_call6_v7 : Ref sig .tc := ⟨.hbm, 118, rfl⟩
abbrev main_call6_c_3 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_v12 : Ref sig .tc := ⟨.hbm, 124, rfl⟩
abbrev main_call6_v13 : Ref sig .tc := ⟨.hbm, 125, rfl⟩
abbrev main_v79 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_v5 : Ref sig .tc := ⟨.hbm, 132, rfl⟩
abbrev main_v80 : Ref sig .tc := ⟨.hbm, 133, rfl⟩
abbrev main_cst_23 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_call9_v0 : Ref sig .tc := ⟨.hbm, 158, rfl⟩
abbrev main_call9_cst : Ref sig .tc := ⟨.hbm, 159, rfl⟩
abbrev main_call9_v1 : Ref sig .tc := ⟨.hbm, 160, rfl⟩
abbrev main_call9_v2 : Ref sig .tc := ⟨.hbm, 161, rfl⟩
abbrev main_v98 : Ref sig .tc := ⟨.hbm, 162, rfl⟩
abbrev main_cst_24 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_25 : Ref sig .tc := ⟨.hbm, 168, rfl⟩
abbrev main_cst_26 : Ref sig .tc := ⟨.hbm, 169, rfl⟩
abbrev main_call10_v0 : Ref sig .tc := ⟨.hbm, 170, rfl⟩
abbrev main_call10_v1 : Ref sig .tc := ⟨.hbm, 171, rfl⟩
abbrev main_call10_v2 : Ref sig .tc := ⟨.hbm, 172, rfl⟩
abbrev main_call10_v3 : Ref sig .tc := ⟨.hbm, 173, rfl⟩
abbrev main_call10_v4 : Ref sig .tc := ⟨.hbm, 174, rfl⟩
abbrev main_v103 : Ref sig .tc := ⟨.hbm, 175, rfl⟩
abbrev main_call11_v0 : Ref sig .tc := ⟨.hbm, 176, rfl⟩
abbrev main_call11_cst : Ref sig .tc := ⟨.hbm, 177, rfl⟩
abbrev main_call11_v1 : Ref sig .tc := ⟨.hbm, 178, rfl⟩
abbrev main_call11_v2 : Ref sig .tc := ⟨.hbm, 179, rfl⟩
abbrev main_v104 : Ref sig .tc := ⟨.hbm, 180, rfl⟩
abbrev main_cst_27 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩

abbrev nD : Nat := 1
abbrev τ : Topo := Topo.v7x

variable {F : FTy → Type} [FloatOps F]
-- ==== Proof.Words.lean ====
/- The values of the binary32 words that the two programs share, as real numbers: the small constants of the gradient
   and of the normalisation, the coefficients of the angle's polynomial, and when one word is half of another. -/
module

public import Idealize.ShloMosaic.Lib.Pointwise
public import Idealize.ShloMosaic.Lib.IdealHost

@[expose] public section

noncomputable section

namespace Cert.Sift

open Idealize.ShloMosaic

/-- The extended real that a binary32 word denotes. -/
abbrev w (b : BitVec 32) : EReal := Ideal.ofBits .f32 b

/-- The real number that the word of the small constant under the square root denotes, a quarter of the kernel's. -/
def epsR : ℝ := ((2 ^ 23 + 6022911 : ℕ) : ℝ) * (2 : ℝ) ^ (-57 : ℤ)

/-- The real number that the word of the ratio's floor denotes, half of the kernel's. -/
def floorR : ℝ := ((2 ^ 23 + 2245216 : ℕ) : ℝ) * (2 : ℝ) ^ (-124 : ℤ)

theorem epsR_pos : 0 < epsR := by unfold epsR; positivity
theorem floorR_pos : 0 < floorR := by unfold floorR; positivity

theorem w_eps : w 0x2EDBE6FF#32 = ((epsR : ℝ) : EReal) := by
  simp [w, epsR, Ideal.ofBits, Ideal.ieee, -EReal.coe_mul]
theorem w_eps2 : w 0x2F5BE6FF#32 = ((2 * epsR : ℝ) : EReal) := by
  simp [w, epsR, Ideal.ofBits, Ideal.ieee, -EReal.coe_mul]; norm_num
theorem w_eps4 : w 0x2FDBE6FF#32 = ((4 * epsR : ℝ) : EReal) := by
  simp [w, epsR, Ideal.ofBits, Ideal.ieee, -EReal.coe_mul]; norm_num
theorem w_floor : w 0x0D224260#32 = ((floorR : ℝ) : EReal) := by
  simp [w, floorR, Ideal.ofBits, Ideal.ieee, -EReal.coe_mul]
theorem w_floor2 : w 0x0DA24260#32 = ((2 * floorR : ℝ) : EReal) := by
  simp [w, floorR, Ideal.ofBits, Ideal.ieee, -EReal.coe_mul]; norm_num
theorem w_zero : w 0x00000000#32 = ((0 : ℝ) : EReal) := by simp [w]
theorem w_one : w 0x3F800000#32 = ((1 : ℝ) : EReal) := by
  simp [w, Ideal.ofBits, Ideal.ieee, -EReal.coe_mul]; norm_num
theorem w_half : w 0x3F000000#32 = ((1 / 2 : ℝ) : EReal) := by
  simp [w, Ideal.ofBits, Ideal.ieee, -EReal.coe_mul]; norm_num
theorem w_two : w 0x40000000#32 = ((2 : ℝ) : EReal) := by
  simp [w, Ideal.ofBits, Ideal.ieee, -EReal.coe_mul]; norm_num
theorem w_three : w 0x40400000#32 = ((3 : ℝ) : EReal) := by
  simp [w, Ideal.ofBits, Ideal.ieee, -EReal.coe_mul]; norm_num
theorem w_four : w 0x40800000#32 = ((4 : ℝ) : EReal) := by
  simp [w, Ideal.ofBits, Ideal.ieee, -EReal.coe_mul]; norm_num
theorem w_seven : w 0x40E00000#32 = ((7 : ℝ) : EReal) := by
  simp [w, Ideal.ofBits, Ideal.ieee, -EReal.coe_mul]; norm_num
theorem w_eight : w 0x41000000#32 = ((8 : ℝ) : EReal) := by
  simp [w, Ideal.ofBits, Ideal.ieee, -EReal.coe_mul]; norm_num

/-- The floor of a norm is a positive real. -/
theorem w_norm_floor : ∃ r : ℝ, 0 < r ∧ w 0x2B8CBCCC#32 = (r : EReal) := by
  refine ⟨((2 ^ 23 + 834764 : ℕ) : ℝ) * (2 : ℝ) ^ (-63 : ℤ), by positivity, ?_⟩
  simp [w, Ideal.ofBits, Ideal.ieee, -EReal.coe_mul]

/-- A word whose exponent field is not all ones denotes a real number. -/
theorem w_real (b : BitVec 32) (h : (b.extractLsb' 23 8).toNat ≠ 255) : ∃ r : ℝ, w b = (r : EReal) := by
  unfold w Ideal.ofBits Ideal.ieee
  dsimp only
  rw [if_neg (by norm_num; exact h)]
  split
  · exact ⟨_, rfl⟩
  · exact ⟨_, rfl⟩

/-- A word `c` with the same fraction as `b` and the exponent one below denotes half the positive real of `b`. -/
theorem w_halved (b c : BitVec 32) (hb : (b.extractLsb' 31 1 == 1#1) = false) (hc : (c.extractLsb' 31 1 == 1#1) = false)
    (he : (b.extractLsb' 23 8).toNat = (c.extractLsb' 23 8).toNat + 1) (h0 : (c.extractLsb' 23 8).toNat ≠ 0)
    (hm : (b.extractLsb' 23 8).toNat ≠ 255)
    (hf : (b.extractLsb' 0 23).toNat = (c.extractLsb' 0 23).toNat) :
    ∃ r : ℝ, 0 < r ∧ w b = (r : EReal) ∧ w c = ((r / 2 : ℝ) : EReal) := by
  have hlt := (b.extractLsb' 23 8).isLt
  refine ⟨((2 ^ 23 + (c.extractLsb' 0 23).toNat : ℕ) : ℝ) * (2 : ℝ) ^ (((c.extractLsb' 23 8).toNat : ℤ) + 1 - 127 - 23), by positivity, ?_, ?_⟩
  · unfold w Ideal.ofBits Ideal.ieee
    dsimp only
    rw [if_neg (by norm_num; exact hm), if_neg (by omega), hb, hf, he]
    norm_num
  · unfold w Ideal.ofBits Ideal.ieee
    dsimp only
    have hn : ¬(c.extractLsb' 23 8).toNat = 2 ^ 8 - 1 := fun h => by
      rw [he, h] at hlt
      exact absurd hlt (by decide)
    rw [if_neg hn, if_neg h0, hc]
    have h2 : (2 : ℝ) ^ (((c.extractLsb' 23 8).toNat : ℤ) + 1 - 127 - 23)
        = 2 * (2 : ℝ) ^ (((c.extractLsb' 23 8).toNat : ℤ) - 127 - 23) := by
      rw [show (((c.extractLsb' 23 8).toNat : ℤ) + 1 - 127 - 23) = 1 + (((c.extractLsb' 23 8).toNat : ℤ) - 127 - 23) by ring,
        zpow_add₀ (by norm_num)]
      norm_num
    rw [h2]
    generalize (c.extractLsb' 23 8).toNat = e
    generalize (c.extractLsb' 0 23).toNat = f
    refine congrArg Real.toEReal ?_
    rw [show ((e : ℤ) - 127 - 23) = (e : ℤ) - (2 ^ (8 - 1) - 1) - ((23 : ℕ) : ℤ) by norm_num]
    simp only [Bool.false_eq_true, if_false]
    ring

end Cert.Sift

end
-- ==== Proof.Pixel.lean ====
/- One pixel. From the two differences at a pixel the kernel and the reference each compute what the pixel contributes to
   the eight orientation bins; the kernel takes the differences without their factor one half and decides the octant by
   three comparisons. Here the two are compared: where both differences are real the kernel's contribution is twice the
   reference's, and where one of them is infinite each program has an infinite contribution in some bin. -/
module

public import proofs.«01_k».proof.Proof.Words

@[expose] public section

noncomputable section

namespace Cert.Sift

open Idealize.ShloMosaic

/-- An extended real that is no real number. -/
def Inf (x : EReal) : Prop := x = ⊤ ∨ x = ⊥

theorem inf_or_real (x : EReal) : Inf x ∨ ∃ r : ℝ, x = (r : EReal) := by
  induction x with
  | bot => exact .inl (.inr rfl)
  | top => exact .inl (.inl rfl)
  | coe r => exact .inr ⟨r, rfl⟩

/-- The absolute value of an extended real. -/
def aabs (x : EReal) : EReal := max x (-x)

theorem aabs_coe (x : ℝ) : aabs (x : EReal) = ((|x| : ℝ) : EReal) := by
  unfold aabs
  rw [← EReal.coe_neg, ← EReal.coe_strictMono.monotone.map_max]
  rfl

theorem aabs_inf {x : EReal} (h : Inf x) : aabs x = ⊤ := by
  rcases h with rfl | rfl <;> simp [aabs]

/-- The smaller of two absolute values over the larger, the larger kept from zero by a floor. -/
def ratio (fl x y : EReal) : EReal := Ideal.div (min (aabs x) (aabs y)) (max (max (aabs x) (aabs y)) fl)

/-- The polynomial of degree nine that stands for the arctangent on the first octant. -/
def poly (r : EReal) : EReal :=
  r * (w 0x3FA2F46B#32 + r * r * (w 0xBED7693C#32 + r * r * (w 0x3E6B7CE1#32
    + r * r * (w 0xBDDFA714#32 + r * r * w 0x3CDC52C5#32))))

theorem div_coe_coe (x y : ℝ) (hy : y ≠ 0) : Ideal.div (x : EReal) (y : EReal) = ((x / y : ℝ) : EReal) := by
  rw [Ideal.div_coe hy, ← EReal.coe_mul, mul_one_div]

theorem div_top (x : EReal) : Ideal.div x ⊤ = 0 := by simp [Ideal.div]

/-- The ratio over the reals. -/
def ratioR (fl x y : ℝ) : ℝ := min |x| |y| / max (max |x| |y|) fl

theorem ratio_coe (fl x y : ℝ) (h : 0 < fl) : ratio (fl : EReal) (x : EReal) (y : EReal) = ((ratioR fl x y : ℝ) : EReal) := by
  unfold ratio ratioR
  rw [aabs_coe, aabs_coe, ← EReal.coe_strictMono.monotone.map_min, ← EReal.coe_strictMono.monotone.map_max,
    ← EReal.coe_strictMono.monotone.map_max, div_coe_coe]
  exact (lt_of_lt_of_le h (le_max_right _ _)).ne'

theorem ratioR_two (fl x y : ℝ) : ratioR (2 * fl) (2 * x) (2 * y) = ratioR fl x y := by
  unfold ratioR
  have h2 : (0 : ℝ) ≤ 2 := by norm_num
  rw [abs_mul, abs_mul, abs_two, ← mul_min_of_nonneg _ _ h2, ← mul_max_of_nonneg _ _ h2, ← mul_max_of_nonneg _ _ h2,
    mul_div_mul_left _ _ (by norm_num)]

theorem ratio_inf (fl x y : EReal) (h : Inf x ∨ Inf y) : ratio fl x y = 0 := by
  unfold ratio
  rcases h with h | h <;> rw [aabs_inf h] <;> simp [div_top]

/-- At a real ratio the polynomial is real. -/
theorem poly_coe (r : ℝ) : ∃ t : ℝ, poly (r : EReal) = (t : EReal) := by
  obtain ⟨a, ha⟩ := w_real 0x3FA2F46B#32 (by decide)
  obtain ⟨b, hb⟩ := w_real 0xBED7693C#32 (by decide)
  obtain ⟨c, hc⟩ := w_real 0x3E6B7CE1#32 (by decide)
  obtain ⟨d, hd⟩ := w_real 0xBDDFA714#32 (by decide)
  obtain ⟨e, he⟩ := w_real 0x3CDC52C5#32 (by decide)
  unfold poly
  rw [ha, hb, hc, hd, he]
  exact ⟨r * (a + r * r * (b + r * r * (c + r * r * (d + r * r * e)))), by push_cast; rfl⟩

theorem poly_zero : poly 0 = 0 := by unfold poly; rw [zero_mul]

/-! ## The octant -/

/-- The octant, counted from the positive first axis, of a point: is its second coordinate the larger in absolute value,
    its first coordinate negative, its second coordinate negative. -/
def sector (s x y : Bool) : Fin 8 :=
  match s, x, y with
  | false, false, false => 0 | true, false, false => 1 | true, true, false => 2 | false, true, false => 3
  | false, true, true => 4 | true, true, true => 5 | true, false, true => 6 | false, false, true => 7

/-- How far the point lies into its octant, `t` being how far it lies from the nearer axis: the kernel's form. -/
def kFrac (s x y : Bool) (t : EReal) : EReal := if ((s ^^ x) ^^ y) = true then w 0x3F800000#32 - t else t

/-- The angle in octants, reference's form. -/
def rAngle (s x y : Bool) (t : EReal) : EReal :=
  if y then w 0x41000000#32 - (if x then w 0x40800000#32 - (if s then w 0x40000000#32 - t else t) else if s then w 0x40000000#32 - t else t)
  else if x then w 0x40800000#32 - (if s then w 0x40000000#32 - t else t) else if s then w 0x40000000#32 - t else t

/-- The angle less its octant's number, reference's form. -/
def rFrac (s x y : Bool) (t : EReal) : EReal := rAngle s x y t - (((sector s x y).val : ℝ) : EReal)

/-- The kernel's octant as a float. -/
def kBin (s x y : Bool) : EReal :=
  if y then w 0x40E00000#32 - (if x then (if s then w 0x40000000#32 else w 0x40400000#32) else if s then w 0x3F800000#32 else w 0x00000000#32)
  else if x then (if s then w 0x40000000#32 else w 0x40400000#32) else if s then w 0x3F800000#32 else w 0x00000000#32

theorem kBin_eq (s x y : Bool) : kBin s x y = (((sector s x y).val : ℝ) : EReal) := by
  unfold kBin
  rw [w_seven, w_two, w_three, w_one, w_zero]
  cases s <;> cases x <;> cases y <;> simp only [sector, Bool.false_eq_true, if_true, if_false, ← EReal.coe_sub] <;>
    exact congrArg Real.toEReal (by norm_num)

/-- The fraction over the reals. -/
def fracR (s x y : Bool) (t : ℝ) : ℝ := if ((s ^^ x) ^^ y) = true then 1 - t else t

theorem kFrac_coe (s x y : Bool) (t : ℝ) : kFrac s x y (t : EReal) = ((fracR s x y t : ℝ) : EReal) := by
  unfold kFrac fracR
  rw [w_one]
  split <;> simp

theorem rFrac_coe (s x y : Bool) (t : ℝ) : rFrac s x y (t : EReal) = ((fracR s x y t : ℝ) : EReal) := by
  unfold rFrac rAngle fracR
  rw [w_eight, w_four, w_two]
  cases s <;> cases x <;> cases y <;>
    simp only [sector, Bool.false_eq_true, if_true, if_false, ← EReal.coe_sub, Bool.xor_false, Bool.xor_true, Bool.not_true, Bool.not_false] <;>
    exact congrArg Real.toEReal (by norm_num <;> ring)

theorem fracR_zero (s x y : Bool) : fracR s x y 0 = 0 ∨ fracR s x y 0 = 1 := by
  unfold fracR; split
  · right; norm_num
  · left; rfl

/-! ## What a pixel contributes -/

/-- Is the second coordinate the larger in absolute value. -/
def steep (x y : EReal) : Bool := decide (aabs x < aabs y)
/-- Is the number negative. -/
def isNeg (x : EReal) : Bool := decide (x < 0)

/-- The kernel's contribution of a pixel of magnitude `m` in octant `k`, `f` of the way into it, to bin `a`. -/
def kShare (k : Fin 8) (f m : EReal) (a : Fin 8) : EReal := if k = a then m - f * m else if k + 1 = a then f * m else 0

/-- The reference's. -/
def rShare (k : Fin 8) (f m : EReal) (a : Fin 8) : EReal :=
  (if k = a then 1 else 0) * ((1 - f) * m) + (if k + 1 = a then 1 else 0) * (f * m)

/-- The magnitude with the small constant `e` under the root. -/
def mag (e x y : EReal) : EReal := Ideal.sqrt (x * x + y * y + e)

/-- The kernel's octant, fraction and contribution from its two differences. -/
def kOct (G H : EReal) : Fin 8 := sector (steep (G + w 0x2F5BE6FF#32) H) (isNeg (G + w 0x2F5BE6FF#32)) (isNeg H)
def kF (G H : EReal) : EReal :=
  kFrac (steep (G + w 0x2F5BE6FF#32) H) (isNeg (G + w 0x2F5BE6FF#32)) (isNeg H) (poly (ratio (w 0x0DA24260#32) (G + w 0x2F5BE6FF#32) H))
def kPix (G H : EReal) (a : Fin 8) : EReal := kShare (kOct G H) (kF G H) (mag (w 0x2FDBE6FF#32) G H) a

/-- The reference's octant, fraction and contribution from its two half differences. -/
def rOct (x y : EReal) : Fin 8 := sector (steep (x + w 0x2EDBE6FF#32) y) (isNeg (x + w 0x2EDBE6FF#32)) (isNeg y)
def rF (x y : EReal) : EReal :=
  rFrac (steep (x + w 0x2EDBE6FF#32) y) (isNeg (x + w 0x2EDBE6FF#32)) (isNeg y) (poly (ratio (w 0x0D224260#32) (x + w 0x2EDBE6FF#32) y))
def rPix (x y : EReal) (a : Fin 8) : EReal := rShare (rOct x y) (rF x y) (mag (w 0x2EDBE6FF#32) x y) a

theorem isNeg_coe (x : ℝ) : isNeg (x : EReal) = decide (x < 0) := by
  unfold isNeg
  exact decide_eq_decide.mpr (by rw [← EReal.coe_zero, EReal.coe_lt_coe_iff])

theorem steep_coe (x y : ℝ) : steep (x : EReal) (y : EReal) = decide (|x| < |y|) := by
  unfold steep
  exact decide_eq_decide.mpr (by rw [aabs_coe, aabs_coe, EReal.coe_lt_coe_iff])

theorem mag_coe (e x y : ℝ) (he : 0 < e) : mag (e : EReal) (x : EReal) (y : EReal) = ((Real.sqrt (x * x + y * y + e) : ℝ) : EReal) := by
  unfold mag
  rw [← EReal.coe_mul, ← EReal.coe_mul, ← EReal.coe_add, ← EReal.coe_add, Ideal.sqrt_coe, if_neg]
  have := mul_self_nonneg x
  have := mul_self_nonneg y
  linarith

/-- Where both differences are real, the kernel's contribution is twice the reference's of the half differences. -/
theorem pix_real (g h : ℝ) (a : Fin 8) : ∃ c : ℝ,
    rPix ((g : EReal) * w 0x3F000000#32) ((h : EReal) * w 0x3F000000#32) a = (c : EReal)
    ∧ kPix (g : EReal) (h : EReal) a = ((2 * c : ℝ) : EReal) := by
  obtain ⟨u, hu⟩ : ∃ u : ℝ, g = 2 * u := ⟨g / 2, by ring⟩
  obtain ⟨v, hv⟩ : ∃ v : ℝ, h = 2 * v := ⟨h / 2, by ring⟩
  have hx : (g : EReal) * w 0x3F000000#32 = (u : EReal) := by
    rw [w_half, ← EReal.coe_mul, hu]; exact congrArg Real.toEReal (by ring)
  have hy : (h : EReal) * w 0x3F000000#32 = (v : EReal) := by
    rw [w_half, ← EReal.coe_mul, hv]; exact congrArg Real.toEReal (by ring)
  rw [hx, hy, hu, hv]
  have hG : (((2 * u : ℝ) : EReal)) + w 0x2F5BE6FF#32 = ((2 * (u + epsR) : ℝ) : EReal) := by
    rw [w_eps2, ← EReal.coe_add]; exact congrArg Real.toEReal (by ring)
  have hg : (u : EReal) + w 0x2EDBE6FF#32 = ((u + epsR : ℝ) : EReal) := by rw [w_eps, ← EReal.coe_add]
  have hs : steep ((2 * (u + epsR) : ℝ) : EReal) ((2 * v : ℝ) : EReal) = steep ((u + epsR : ℝ) : EReal) (v : EReal) := by
    rw [steep_coe, steep_coe]
    exact decide_eq_decide.mpr (by rw [abs_mul, abs_mul, abs_two]; constructor <;> intro h <;> linarith)
  have hn : ∀ z : ℝ, isNeg ((2 * z : ℝ) : EReal) = isNeg (z : EReal) := fun z => by
    rw [isNeg_coe, isNeg_coe]
    exact decide_eq_decide.mpr (by constructor <;> intro h <;> linarith)
  have hr : ratio (w 0x0DA24260#32) ((2 * (u + epsR) : ℝ) : EReal) ((2 * v : ℝ) : EReal)
      = ((ratioR floorR (u + epsR) v : ℝ) : EReal) := by
    rw [w_floor2, ratio_coe _ _ _ (by have := floorR_pos; linarith), ratioR_two]
  have hr' : ratio (w 0x0D224260#32) ((u + epsR : ℝ) : EReal) (v : EReal) = ((ratioR floorR (u + epsR) v : ℝ) : EReal) := by
    rw [w_floor, ratio_coe _ _ _ floorR_pos]
  obtain ⟨t, ht⟩ := poly_coe (ratioR floorR (u + epsR) v)
  have he := epsR_pos
  have hm : Real.sqrt (2 * u * (2 * u) + 2 * v * (2 * v) + 4 * epsR) = 2 * Real.sqrt (u * u + v * v + epsR) := by
    rw [show 2 * u * (2 * u) + 2 * v * (2 * v) + 4 * epsR = 2 ^ 2 * (u * u + v * v + epsR) by ring,
      Real.sqrt_mul (by norm_num), Real.sqrt_sq (by norm_num)]
  unfold kPix rPix kOct rOct kF rF
  rw [hG, hg, hs, hn, hn, hr, hr', ht, kFrac_coe, rFrac_coe, w_eps4, w_eps, mag_coe _ u v he, mag_coe _ _ _ (by linarith), hm]
  generalize steep ((u + epsR : ℝ) : EReal) (v : EReal) = s
  generalize isNeg ((u + epsR : ℝ) : EReal) = x
  generalize isNeg (v : EReal) = y
  generalize fracR s x y t = f
  generalize Real.sqrt (u * u + v * v + epsR) = m
  generalize sector s x y = k
  refine ⟨(if k = a then 1 else 0) * ((1 - f) * m) + (if k + 1 = a then 1 else 0) * (f * m), ?_, ?_⟩
  · unfold rShare
    split_ifs <;> push_cast <;> rfl
  · unfold kShare
    by_cases h1 : k = a
    · have h2 : ¬k + 1 = a := by subst h1; decide +revert
      rw [if_pos h1, if_pos h1, if_neg h2, ← EReal.coe_mul, ← EReal.coe_sub]
      exact congrArg Real.toEReal (by ring)
    · by_cases h2 : k + 1 = a
      · rw [if_neg h1, if_pos h2, if_neg h1, if_pos h2, ← EReal.coe_mul]
        exact congrArg Real.toEReal (by ring)
      · rw [if_neg h1, if_neg h2, if_neg h1, if_neg h2]
        exact congrArg Real.toEReal (by ring)

/-! ## Where a difference is infinite -/

theorem sq_nonneg' (x : EReal) : 0 ≤ x * x := by
  induction x with
  | bot => simp
  | top => simp
  | coe r => rw [← EReal.coe_mul, ← EReal.coe_zero, EReal.coe_le_coe_iff]; exact mul_self_nonneg r

theorem sq_inf {x : EReal} (h : Inf x) : x * x = ⊤ := by rcases h with rfl | rfl <;> simp

theorem add_top_of_nonneg {x : EReal} (h : 0 ≤ x) : x + ⊤ = ⊤ :=
  EReal.add_top_of_ne_bot (by rintro rfl; simp at h)

theorem mag_inf (e : ℝ) (x y : EReal) (h : Inf x ∨ Inf y) : mag (e : EReal) x y = ⊤ := by
  unfold mag
  have : x * x + y * y = ⊤ := by
    rcases h with h | h
    · rw [sq_inf h, add_comm, add_top_of_nonneg (sq_nonneg' y)]
    · rw [sq_inf h, add_top_of_nonneg (sq_nonneg' x)]
  rw [this, EReal.top_add_coe]
  rfl

theorem inf_add_coe {x : EReal} (h : Inf x) (e : ℝ) : Inf (x + (e : EReal)) := by
  rcases h with rfl | rfl
  · left; exact EReal.top_add_coe e
  · right; exact EReal.bot_add _

theorem fin8_succ_ne (k : Fin 8) : ¬k + 1 = k := by decide +revert

theorem kPix_inf (G H : EReal) (h : Inf G ∨ Inf H) : ∃ a, Inf (kPix G H a) := by
  refine ⟨kOct G H, ?_⟩
  have h' : Inf (G + w 0x2F5BE6FF#32) ∨ Inf H := by rw [w_eps2]; exact h.imp (fun h => inf_add_coe h _) id
  unfold kPix kF
  rw [ratio_inf _ _ _ h', poly_zero, w_eps4, mag_inf _ _ _ h, ← EReal.coe_zero, kFrac_coe]
  unfold kShare
  rw [if_pos rfl]
  rcases fracR_zero (steep (G + w 0x2F5BE6FF#32) H) (isNeg (G + w 0x2F5BE6FF#32)) (isNeg H) with h0 | h0 <;> rw [h0]
  · left; simp
  · right; simp

theorem rPix_inf (x y : EReal) (h : Inf x ∨ Inf y) : ∃ a, Inf (rPix x y a) := by
  have h' : Inf (x + w 0x2EDBE6FF#32) ∨ Inf y := by rw [w_eps]; exact h.imp (fun h => inf_add_coe h _) id
  unfold rPix rF
  rw [ratio_inf _ _ _ h', poly_zero, w_eps, mag_inf _ _ _ h, ← EReal.coe_zero, rFrac_coe]
  rcases fracR_zero (steep (x + (epsR : EReal)) y) (isNeg (x + (epsR : EReal))) (isNeg y) with h0 | h0 <;> rw [h0]
  · refine ⟨rOct x y, .inl ?_⟩
    unfold rShare
    rw [if_pos rfl, if_neg (fin8_succ_ne _)]
    simp
  · refine ⟨rOct x y + 1, .inl ?_⟩
    unfold rShare
    rw [if_pos rfl, if_neg (fun h => fin8_succ_ne _ h.symm)]
    simp

theorem inf_half {x : EReal} (h : Inf x) : Inf (x * w 0x3F000000#32) := by
  rw [w_half]
  rcases h with rfl | rfl
  · left; exact EReal.top_mul_coe_of_pos (by norm_num)
  · right; exact EReal.bot_mul_coe_of_pos (by norm_num)

end Cert.Sift

end
-- ==== Proof.Patch.lean ====
/- One patch. The contributions of a patch's 65 by 65 pixels are pooled with a window over the rows and a window over the
   columns into 8 bins by 4 by 4 cells, and the 128 numbers are normalised, clipped and normalised again. The kernel's
   descriptor of a patch is the reference's: where every difference in the patch is real the pooled numbers are equal, and
   where some difference is infinite both descriptors are zero, because both norms are infinite. -/
module

public import proofs.«01_k».proof.Proof.Pixel

@[expose] public section

noncomputable section

namespace Cert.Sift

open Idealize.ShloMosaic
open scoped BigOperators

/-- The pooled number of bin `a` and cell `(s, t)`: the rows weighted by `V s`, then the columns by `U t`. -/
def pool (C : Fin 65 → Fin 65 → Fin 8 → EReal) (V U : Fin 4 → Fin 65 → EReal) (a : Fin 8) (s t : Fin 4) : EReal :=
  ∑ j : Fin 65, (∑ i : Fin 65, V s i * C i j a) * U t j

/-- The norm of 128 numbers, kept from zero. -/
def norm (p : Fin 128 → EReal) : EReal := max (Ideal.sqrt (∑ l : Fin 128, p l * p l)) (w 0x2B8CBCCC#32)

/-- The numbers divided by their norm and clipped to the interval from zero to one fifth. -/
def clipped (p : Fin 128 → EReal) (l : Fin 128) : EReal := min (w 0x3E4CCCCD#32) (max 0 (Ideal.div (p l) (norm p)))

/-- Normalised, clipped, normalised again. -/
def desc (p : Fin 128 → EReal) (l : Fin 128) : EReal := Ideal.div (clipped p l) (norm (clipped p))

/-- The bin, the row cell and the column cell of a descriptor's number. -/
def lBin (l : Fin 128) : Fin 8 := ⟨l.val / 16, by omega⟩
def lRow (l : Fin 128) : Fin 4 := ⟨l.val / 4 % 4, by omega⟩
def lCol (l : Fin 128) : Fin 4 := ⟨l.val % 4, by omega⟩

theorem lane_surj (a : Fin 8) (s t : Fin 4) : ∃ l : Fin 128, lBin l = a ∧ lRow l = s ∧ lCol l = t :=
  ⟨⟨a.val * 16 + s.val * 4 + t.val, by omega⟩, Fin.ext (by simp only [lBin]; omega), Fin.ext (by simp only [lRow]; omega),
    Fin.ext (by simp only [lCol]; omega)⟩

/-- The descriptor of a patch from its contributions. -/
def patchDesc (C : Fin 65 → Fin 65 → Fin 8 → EReal) (V U : Fin 4 → Fin 65 → EReal) (l : Fin 128) : EReal :=
  desc (fun l => pool C V U (lBin l) (lRow l) (lCol l)) l

/-! ## Infinite terms -/

theorem inf_add {x : EReal} (h : Inf x) (y : EReal) : Inf (x + y) := by
  rcases h with rfl | rfl
  · induction y with
    | bot => right; rfl
    | top => left; rfl
    | coe r => left; exact EReal.top_add_coe r
  · right; exact EReal.bot_add _

/-- A sum with an infinite term is infinite. -/
theorem inf_sum {n : ℕ} (f : Fin n → EReal) (k : Fin n) (h : Inf (f k)) : Inf (∑ i, f i) := by
  rw [← Finset.add_sum_erase _ _ (Finset.mem_univ k)]
  exact inf_add h _

theorem inf_mul_pos {x : EReal} (h : Inf x) {v : ℝ} (hv : 0 < v) : Inf (x * (v : EReal)) := by
  rcases h with rfl | rfl
  · left; exact EReal.top_mul_coe_of_pos hv
  · right; exact EReal.bot_mul_coe_of_pos hv

/-- A descriptor of which some pooled number is infinite is zero. -/
theorem desc_inf (p : Fin 128 → EReal) (k : Fin 128) (h : Inf (p k)) : desc p = fun _ => 0 := by
  have hs : ∑ l : Fin 128, p l * p l = ⊤ := by
    rw [← Finset.add_sum_erase _ _ (Finset.mem_univ k), sq_inf h, add_comm]
    exact add_top_of_nonneg (Finset.sum_nonneg fun l _ => sq_nonneg' (p l))
  have hn : norm p = ⊤ := by
    unfold norm
    rw [hs]
    exact max_eq_left (a := (⊤ : EReal)) le_top
  obtain ⟨r, hr, he⟩ := w_norm_floor
  have hc : clipped p = fun _ => 0 := by
    funext l
    unfold clipped
    rw [hn, div_top, max_self]
    obtain ⟨q, hq⟩ := w_real 0x3E4CCCCD#32 (by decide)
    refine min_eq_right ?_
    rw [show w 0x3E4CCCCD#32 = ((((2 ^ 23 + 5033165 : ℕ) : ℝ) * (2 : ℝ) ^ (-26 : ℤ) : ℝ) : EReal) by
      simp [w, Ideal.ofBits, Ideal.ieee, -EReal.coe_mul], ← EReal.coe_zero, EReal.coe_le_coe_iff]
    positivity
  funext l
  unfold desc
  rw [hc]
  have hz : norm (fun _ => 0) = (r : EReal) := by
    unfold norm
    have : ∑ l : Fin 128, ((0 : EReal) * 0) = 0 := by simp
    rw [this, ← EReal.coe_zero, Ideal.sqrt_coe, if_neg (lt_irrefl _), Real.sqrt_zero, he,
      ← EReal.coe_strictMono.monotone.map_max, max_eq_right hr.le]
  rw [hz, ← EReal.coe_zero, div_coe_coe _ _ hr.ne', zero_div]

/-- Where an infinite contribution lies, and the windows are not negative and cover every row and every column, some pooled
    number is infinite. -/
theorem pool_inf (C : Fin 65 → Fin 65 → Fin 8 → EReal) (V U : Fin 4 → Fin 65 → EReal)
    (hV : ∀ i, ∃ s, ∃ v : ℝ, 0 < v ∧ V s i = (v : EReal)) (hU : ∀ i, ∃ s, ∃ v : ℝ, 0 < v ∧ U s i = (v : EReal))
    (i j : Fin 65) (a : Fin 8) (h : Inf (C i j a)) :
    ∃ l : Fin 128, Inf (pool C V U (lBin l) (lRow l) (lCol l)) := by
  obtain ⟨s, v, hv, hs⟩ := hV i
  obtain ⟨t, u, hu, ht⟩ := hU j
  obtain ⟨l, h1, h2, h3⟩ := lane_surj a s t
  refine ⟨l, ?_⟩
  rw [h1, h2, h3]
  unfold pool
  refine inf_sum _ j ?_
  rw [ht]
  refine inf_mul_pos (inf_sum _ i ?_) hu
  rw [hs, mul_comm]
  exact inf_mul_pos h hv

/-- THE PATCH. From the same differences `G` down the columns and `H` down the rows the kernel's pooling, with half of the
    window over the columns, and the reference's, from half differences, give one descriptor. -/
theorem patch_eq (G H : Fin 65 → Fin 65 → EReal) (V U : Fin 4 → Fin 65 → EReal)
    (hVU : ∀ s i, ∃ v : ℝ, V s i = (v : EReal) ∧ U s i = ((v / 2 : ℝ) : EReal))
    (hpos : ∀ i, ∃ s, ∃ v : ℝ, 0 < v ∧ V s i = (v : EReal)) :
    patchDesc (fun i j a => kPix (G i j) (H i j) a) V U
      = patchDesc (fun i j a => rPix (G i j * w 0x3F000000#32) (H i j * w 0x3F000000#32) a) V V := by
  have hposU : ∀ i, ∃ s, ∃ v : ℝ, 0 < v ∧ U s i = (v : EReal) := fun i => by
    obtain ⟨s, v, hv, h⟩ := hpos i
    obtain ⟨v', h1, h2⟩ := hVU s i
    have : v = v' := by rw [h] at h1; exact_mod_cast h1
    subst this
    exact ⟨s, v / 2, by linarith, h2⟩
  by_cases hinf : ∃ i j, Inf (G i j) ∨ Inf (H i j)
  · obtain ⟨i, j, h⟩ := hinf
    obtain ⟨a, ha⟩ := kPix_inf _ _ h
    obtain ⟨b, hb⟩ := rPix_inf _ _ (h.imp inf_half inf_half)
    obtain ⟨l, hl⟩ := pool_inf (fun i j a => kPix (G i j) (H i j) a) V U hpos hposU i j a ha
    obtain ⟨l', hl'⟩ := pool_inf (fun i j a => rPix (G i j * w 0x3F000000#32) (H i j * w 0x3F000000#32) a) V V hpos hpos i j b hb
    funext m
    unfold patchDesc
    rw [desc_inf _ l hl, desc_inf _ l' hl']
  · have hG : ∀ i j, ∃ g h : ℝ, G i j = (g : EReal) ∧ H i j = (h : EReal) := fun i j => by
      rcases inf_or_real (G i j) with h | ⟨g, hg⟩
      · exact absurd ⟨i, j, .inl h⟩ hinf
      · rcases inf_or_real (H i j) with h | ⟨h, hh⟩
        · exact absurd ⟨i, j, .inr h⟩ hinf
        · exact ⟨g, h, hg, hh⟩
    have hc : ∀ i j a, ∃ c : ℝ, rPix (G i j * w 0x3F000000#32) (H i j * w 0x3F000000#32) a = (c : EReal)
        ∧ kPix (G i j) (H i j) a = ((2 * c : ℝ) : EReal) := fun i j a => by
      obtain ⟨g, h, h1, h2⟩ := hG i j
      rw [h1, h2]
      exact pix_real g h a
    choose c hcr hck using hc
    choose v hv hu using hVU
    unfold patchDesc
    refine funext fun m => congrFun (congrArg desc (funext fun l => ?_)) m
    unfold pool
    simp only [hcr, hck, hv, hu]
    simp only [← EReal.coe_mul]
    have hsum : ∀ f : Fin 65 → ℝ, (∑ i, ((f i : ℝ) : EReal)) = ((∑ i, f i : ℝ) : EReal) := fun f =>
      (map_sum (⟨⟨Real.toEReal, EReal.coe_zero⟩, EReal.coe_add⟩ : ℝ →+ EReal) f Finset.univ).symm
    simp only [hsum, ← EReal.coe_mul]
    refine congrArg Real.toEReal (Finset.sum_congr rfl fun j _ => ?_)
    have : ∀ x : Fin 65, v (lRow l) x * (2 * c x j (lBin l)) = 2 * (v (lRow l) x * c x j (lBin l)) := fun x => by ring
    simp only [this, ← Finset.mul_sum]
    ring

/-- The next and the previous position along a patch's axis of 65, the last and the first repeated. -/
def nxt (i : Fin 65) : Fin 65 := ⟨min (i.val + 1) 64, by omega⟩
def prv (i : Fin 65) : Fin 65 := ⟨i.val - 1, by omega⟩

/-- The difference of the right and the left neighbour, and of the lower and the upper one, in a patch. -/
def dX (P : Fin 65 → Fin 65 → EReal) (i j : Fin 65) : EReal := P i (nxt j) - P i (prv j)
def dY (P : Fin 65 → Fin 65 → EReal) (i j : Fin 65) : EReal := P (nxt i) j - P (prv i) j

end Cert.Sift

end
-- ==== Proof.Window.lean ====
/- The words of the pooling window: the reference's table by cell and position, and a word's half. -/
module

public import proofs.«01_k».proof.ReferenceIdeal

@[expose] public section

noncomputable section

namespace Cert.Sift

open Idealize.ShloMosaic

/-- The window's word for cell `s` at position `i`. -/
def winWord (s : Fin 4) (i : Fin 65) : BitVec 32 := Cert.ReferenceIdeal.lit0 ⟨s.val * 65 + i.val, by omega⟩

/-- A positive float's word with its exponent lowered by one; zero stays. -/
def halfWord (b : BitVec 32) : BitVec 32 := if b = 0#32 then 0#32 else b - 0x00800000#32

end Cert.Sift

end
-- ==== Proof.Tables.lean ====
/- The window as extended reals: every weight is a real, its half is the halved word, and at every position some cell's
   weight is positive. -/
module

public import proofs.«01_k».proof.Proof.Window
public import proofs.«01_k».proof.Proof.Words

@[expose] public section

set_option maxRecDepth 16384

noncomputable section

namespace Cert.Sift

open Idealize.ShloMosaic

/-- The window of the reference as extended reals, and its half. -/
def win (s : Fin 4) (i : Fin 65) : EReal := w (winWord s i)
def winHalf (s : Fin 4) (i : Fin 65) : EReal := w (halfWord (winWord s i))

/-- What is asked of a word of the window: it is zero, or a normal positive float whose exponent can be lowered by one. -/
def plain (b : BitVec 32) : Bool :=
  b == 0#32 || ((b.extractLsb' 31 1 == 1#1) == false && ((halfWord b).extractLsb' 31 1 == 1#1) == false
    && (b.extractLsb' 23 8).toNat == ((halfWord b).extractLsb' 23 8).toNat + 1 && ((halfWord b).extractLsb' 23 8).toNat != 0
    && (b.extractLsb' 23 8).toNat != 255 && (b.extractLsb' 0 23).toNat == ((halfWord b).extractLsb' 0 23).toNat)

theorem win_plain (s : Fin 4) (i : Fin 65) : plain (winWord s i) = true := by decide +kernel +revert

theorem win_covers (i : Fin 65) : ∃ s : Fin 4, winWord s i ≠ 0#32 := by decide +kernel +revert

theorem plain_pos (b : BitVec 32) (h : plain b = true) (h0 : b ≠ 0#32) :
    ∃ r : ℝ, 0 < r ∧ w b = (r : EReal) ∧ w (halfWord b) = ((r / 2 : ℝ) : EReal) := by
  unfold plain at h
  simp only [Bool.or_eq_true, beq_iff_eq, h0, false_or, Bool.and_eq_true, bne_iff_ne, ne_eq] at h
  obtain ⟨⟨⟨⟨⟨h1, h2⟩, h3⟩, h4⟩, h5⟩, h6⟩ := h
  exact w_halved b (halfWord b) h1 h2 h3 h4 h5 h6

/-- Every weight is a real number and its half the half weight. -/
theorem win_half (s : Fin 4) (i : Fin 65) : ∃ v : ℝ, win s i = (v : EReal) ∧ winHalf s i = ((v / 2 : ℝ) : EReal) := by
  unfold win winHalf
  by_cases h : winWord s i = 0#32
  · refine ⟨0, ?_, ?_⟩
    · rw [h]; exact w_zero
    · rw [h, zero_div]; exact w_zero
  · obtain ⟨r, -, h1, h2⟩ := plain_pos _ (win_plain s i) h
    exact ⟨r, h1, h2⟩

/-- At every position some cell has a positive weight. -/
theorem win_pos (i : Fin 65) : ∃ s : Fin 4, ∃ v : ℝ, 0 < v ∧ win s i = (v : EReal) := by
  obtain ⟨s, hs⟩ := win_covers i
  obtain ⟨r, h0, h1, -⟩ := plain_pos _ (win_plain s i) hs
  exact ⟨s, r, h0, h1⟩

end Cert.Sift

end
-- ==== Proof.RefRead.lean ====
/- The reference read element by element: its result at an image, a channel, a patch and a descriptor position is the
   descriptor of that patch's contributions, the differences being taken inside the patch with its edges repeated. -/
module

public import proofs.«01_k».proof.Proof.Gen.ReferenceIdeal.Run
public import Idealize.ShloMosaic.Lib.Tactic.CleanTypes
public import proofs.«01_k».proof.Proof.Patch
public import proofs.«01_k».proof.Proof.Tables

@[expose] public section

set_option maxRecDepth 16384

noncomputable section

namespace Cert.Sift

open Idealize.ShloMosaic Cert.ReferenceIdeal Cert.ReferenceIdeal.Gen Cert.ReferenceIdeal.Value
open scoped BigOperators

/-- The position in a patch that a position of its padded form repeats. -/
def unpad (i : Fin 67) : Fin 65 := ⟨min (i.val - 1) 64, by omega⟩

/-- The patch of an image batch at image `b`, channel `c`, patch row `p`, patch column `q`. -/
def patchOf (A : S16x3x520x520.Idx → EReal) (b : Fin 16) (c : Fin 3) (p q : Fin 8) (i j : Fin 65) : EReal :=
  A (ix4 b c ⟨p.val * 65 + i.val, by omega⟩ ⟨q.val * 65 + j.val, by omega⟩)

/-- Its two copies are one table. -/
theorem lit1_eq (k : Fin 260) : lit1 k = lit0 k := by decide +kernel +revert

/-- The table's entry at a cell and a position is the window's word. -/
theorem lit0_win (s : Fin 4) (i : Fin 65) : w (lit0 (S4x65.rowMajor (ix2 s i))) = win s i :=
  congrArg (fun k => w (lit0 k)) (Fin.ext (rowMajor_val2 _ 65 rfl))

variable (V0 : Valuation τ sig (Elt Ideal))

/-- The argument as a function of its indices. -/
abbrev argR : S16x3x520x520.Idx → EReal := V0 (Proc.devRef .tc main_arg0)

/-- The row of the array of patches at which an image, a channel and a patch lie, and its channel axis. -/
def rowN (b : Fin 16) (c : Fin 3) (p q : Fin 8) : Fin 1024 := ⟨(((b.val * 3 + c.val) * 8 + p.val) * 8 + q.val) / 3, by omega⟩
def rowC (b : Fin 16) (c : Fin 3) (p q : Fin 8) : Fin 3 := ⟨(((b.val * 3 + c.val) * 8 + p.val) * 8 + q.val) % 3, by omega⟩

theorem patches_read (b : Fin 16) (c : Fin 3) (p q : Fin 8) (i j : Fin 65) :
    res_main_v2 V0 (ix4 (rowN b c p q) (rowC b c p q) i j) = patchOf (argR V0) b c p q i j := by
  have hr : (Shape.reshapeEquiv shapeCasts_S16x3x8x8x65x65_S1024x3x65x65) (ix4 (rowN b c p q) (rowC b c p q) i j)
      = ix6 b c p q i j := by
    refine Shape.reshapeEquiv_eq_of_rowMajor _ ?_
    rw [rowMajor_val6 _ 811200 270400 33800 4225 65 rfl rfl rfl rfl rfl, rowMajor_val4 _ 12675 4225 65 rfl rfl rfl]
    show b.val * 811200 + c.val * 270400 + p.val * 33800 + q.val * 4225 + i.val * 65 + j.val
      = (rowN b c p q).val * 12675 + (rowC b c p q).val * 4225 + i.val * 65 + j.val
    simp only [rowN, rowC]
    omega
  unfold res_main_v2
  clean_types
  pointwise
  rw [hr]
  rfl

/-- The padded patch repeats the patch's edges. -/
theorem padded_read (n : Fin 1024) (c : Fin 3) (i j : Fin 67) :
    res_main_v8 V0 (ix4 n c i j) = res_main_v2 V0 (ix4 n c (unpad i) (unpad j)) := by
  have h5 : ∀ k : Fin 65, res_main_v5 V0 (ix4 n c i k) = res_main_v2 V0 (ix4 n c (unpad i) k) := fun k => by
    unfold res_main_v5
    clean_types
    pointwise
    split_ifs with h1 h2 <;> refine congrArg (fun x => res_main_v2 V0 (ix4 n c x k)) (Fin.ext ?_) <;>
      simp only [unpad] <;> omega
  unfold res_main_v8
  clean_types
  pointwise
  simp only [h5]
  split_ifs with h1 h2 <;> refine congrArg (fun x => res_main_v2 V0 (ix4 n c (unpad i) x)) (Fin.ext ?_) <;>
    simp only [unpad] <;> omega

/-- The two half differences of a patch. -/
theorem gx_read (n : Fin 1024) (c : Fin 3) (i j : Fin 65) :
    res_main_v13 V0 (ix4 n c i j) = dX (fun i j => res_main_v2 V0 (ix4 n c i j)) i j * w 0x3F000000#32 := by
  unfold res_main_v13
  clean_types
  pointwise
  rw [padded_read, padded_read]
  have e1 : unpad ⟨1 + i.val, by omega⟩ = i := Fin.ext (by simp only [unpad]; omega)
  have e2 : unpad ⟨2 + j.val, by omega⟩ = nxt j := Fin.ext (by simp only [unpad, nxt]; omega)
  have e3 : unpad ⟨j.val, by omega⟩ = prv j := Fin.ext (by simp only [unpad, prv]; omega)
  rw [e1, e2, e3]
  rfl

theorem gy_read (n : Fin 1024) (c : Fin 3) (i j : Fin 65) :
    res_main_v18 V0 (ix4 n c i j) = dY (fun i j => res_main_v2 V0 (ix4 n c i j)) i j * w 0x3F000000#32 := by
  unfold res_main_v18
  clean_types
  pointwise
  rw [padded_read, padded_read]
  have e1 : unpad ⟨1 + j.val, by omega⟩ = j := Fin.ext (by simp only [unpad]; omega)
  have e2 : unpad ⟨2 + i.val, by omega⟩ = nxt i := Fin.ext (by simp only [unpad, nxt]; omega)
  have e3 : unpad ⟨i.val, by omega⟩ = prv i := Fin.ext (by simp only [unpad, prv]; omega)
  rw [e1, e2, e3]
  rfl

/-- The two half differences as extended reals. -/
abbrev gx (n : Fin 1024) (c : Fin 3) (i j : Fin 65) : EReal := res_main_v13 V0 (ix4 n c i j)
abbrev gy (n : Fin 1024) (c : Fin 3) (i j : Fin 65) : EReal := res_main_v18 V0 (ix4 n c i j)

/-- The magnitude, the octant and the fraction at a pixel, from the two half differences there. -/
theorem mag_read (n : Fin 1024) (c : Fin 3) (i j : Fin 65) :
    res_main_v24 V0 (ix4 n c i j) = mag (w 0x2EDBE6FF#32) (gx V0 n c i j) (gy V0 n c i j) := by
  unfold res_main_v24
  clean_types
  pointwise [mag]

theorem gxe_read (n : Fin 1024) (c : Fin 3) (i j : Fin 65) :
    res_main_v26 V0 (ix4 n c i j) = gx V0 n c i j + w 0x2EDBE6FF#32 := by
  unfold res_main_v26
  clean_types
  pointwise

theorem poly_read (n : Fin 1024) (c : Fin 3) (i j : Fin 65) :
    res_main_v48 V0 (ix4 n c i j) = poly (ratio (w 0x0D224260#32) (gx V0 n c i j + w 0x2EDBE6FF#32) (gy V0 n c i j)) := by
  have hr : res_main_v33 V0 (ix4 n c i j) = ratio (w 0x0D224260#32) (gx V0 n c i j + w 0x2EDBE6FF#32) (gy V0 n c i j) := by
    unfold res_main_v33 res_main_v28 res_main_v27
    clean_types
    pointwise
    rw [gxe_read]
    rfl
  unfold res_main_v48 res_main_v34
  clean_types
  pointwise
  rw [hr]
  rfl

/-- The octant's number by three tests, as the reference counts it in words. -/
theorem octant_word (p q r : Prop) [Decidable p] [Decidable q] [Decidable r] :
    (if r then IntOp.subi 7#32 (if q then IntOp.subi 3#32 (if p then 1#32 else 0#32) else if p then 1#32 else 0#32)
      else if q then IntOp.subi 3#32 (if p then 1#32 else 0#32) else if p then 1#32 else 0#32)
      = BitVec.ofNat 32 (sector (decide p) (decide q) (decide r)).val := by
  by_cases p <;> by_cases q <;> by_cases r <;> simp only [*, if_true, if_false, decide_true, decide_false] <;> decide

/-- A small number's word read as a float is the number. -/
theorem sitofp_small (k : Fin 8) :
    FloatOps.sitofp (F := Ideal) .f32 (BitVec.ofNat 32 k.val) = (((k.val : ℝ)) : EReal) := by
  have h : (BitVec.ofNat 32 k.val).toInt = (k.val : ℤ) := by decide +revert
  show (((BitVec.ofNat 32 k.val).toInt : ℝ) : EReal) = _
  rw [h]
  push_cast
  rfl

theorem octant_read (n : Fin 1024) (c : Fin 3) (i j : Fin 65) :
    res_main_v74 V0 (ix4 n c i j) = BitVec.ofNat 32 (rOct (gx V0 n c i j) (gy V0 n c i j)).val := by
  unfold res_main_v74 res_main_v69 res_main_v64 res_main_v28 res_main_v27
  clean_types
  pointwise
  rw [gxe_read]
  exact octant_word _ _ _

theorem angle_if (p q r : Prop) [Decidable p] [Decidable q] [Decidable r] (t : EReal) :
    (if r then w 0x41000000#32 - (if q then w 0x40800000#32 - (if p then w 0x40000000#32 - t else t) else if p then w 0x40000000#32 - t else t)
      else if q then w 0x40800000#32 - (if p then w 0x40000000#32 - t else t) else if p then w 0x40000000#32 - t else t)
      = rAngle (decide p) (decide q) (decide r) t := by
  by_cases p <;> by_cases q <;> by_cases r <;>
    simp only [*, rAngle, if_true, if_false, decide_true, decide_false, Bool.false_eq_true]

theorem frac_read (n : Fin 1024) (c : Fin 3) (i j : Fin 65) :
    res_main_v76 V0 (ix4 n c i j) = rF (gx V0 n c i j) (gy V0 n c i j) := by
  unfold res_main_v76 res_main_v57 res_main_v52 res_main_v28 res_main_v27
  clean_types
  pointwise
  rw [gxe_read, poly_read, octant_read, sitofp_small]
  exact congrArg (fun x : EReal => x - _) (angle_if _ _ _ _)

/-- The number after an octant's, around the circle, as the reference computes it in words. -/
theorem next_word (k : Fin 8) (m e : BitVec 32) (he : e = 8#32) (hm : m = IntOp.remsi .host (IntOp.addi (BitVec.ofNat 32 k.val) 1#32) e) :
    Scalar.select (IntOp.andi (IntOp.cmpi .ne (IntOp.cmpi .slt m 0#32) (IntOp.cmpi .slt e 0#32)) (IntOp.cmpi .ne m 0#32))
      (IntOp.addi m e) m = BitVec.ofNat 32 (k + 1).val := by
  subst he hm
  revert k
  decide

/-- An equality test of two octants' words, read as a float. -/
theorem onehot (k a : Fin 8) :
    FloatOps.uitofp (F := Ideal) .f32 (IntOp.cmpi .eq (BitVec.ofNat 32 k.val) (BitVec.ofNat 32 a.val)) = if k = a then (1 : EReal) else 0 := by
  have h : IntOp.cmpi .eq (BitVec.ofNat 32 k.val) (BitVec.ofNat 32 a.val) = if k = a then 1#1 else 0#1 := by decide +revert
  rw [h]
  show ((((if k = a then 1#1 else 0#1 : BitVec 1).toNat : ℝ)) : EReal) = _
  split <;> simp

/-- The histograms before normalisation: the contributions pooled with the window on both axes. -/
theorem hist_read (n : Fin 1024) (c : Fin 3) (l : Fin 128) :
    res_main_v97 V0 (ix3 n c l)
      = pool (fun i j a => rPix (gx V0 n c i j) (gy V0 n c i j) a) win win (lBin l) (lRow l) (lCol l) := by
  have e1 : res_main_call6_v1 V0 ix0 = 8#32 := rfl
  unfold res_main_v97 res_main_call6_v3
  clean_types
  pointwise
  simp only [id_eq, pool]
  refine Finset.sum_congr rfl fun j _ => congrArg₂ (· * ·) (Finset.sum_congr rfl fun i _ => congrArg₂ (· * ·) (lit0_win _ _) ?_) ?_
  · pointwise
    rw [octant_read, frac_read, mag_read]
    unfold rPix rShare
    rw [← onehot (rOct (gx V0 n c i j) (gy V0 n c i j)) (lBin l), ← onehot (rOct (gx V0 n c i j) (gy V0 n c i j) + 1) (lBin l),
      ← next_word _ _ (res_main_call6_v1 V0 ix0) rfl rfl]
    rfl
  · exact (congrArg w (lit1_eq _)).trans (lit0_win _ _)

/-- The clipped and normalised histogram. -/
theorem clip_read (n : Fin 1024) (c : Fin 3) (l : Fin 128) :
    res_main_v103 V0 (ix3 n c l) = clipped (fun l => res_main_v97 V0 (ix3 n c l)) l := by
  unfold res_main_v103
  clean_types
  pointwise [id_eq, clipped, norm]

/-- The differences of a row of the array of patches are those of the patch of the argument, halved. -/
theorem gx_patch (b : Fin 16) (c : Fin 3) (p q : Fin 8) (i j : Fin 65) :
    gx V0 (rowN b c p q) (rowC b c p q) i j = dX (patchOf (argR V0) b c p q) i j * w 0x3F000000#32 := by
  rw [gx, gx_read]
  simp only [patches_read]

theorem gy_patch (b : Fin 16) (c : Fin 3) (p q : Fin 8) (i j : Fin 65) :
    gy V0 (rowN b c p q) (rowC b c p q) i j = dY (patchOf (argR V0) b c p q) i j * w 0x3F000000#32 := by
  rw [gy, gy_read]
  simp only [patches_read]

/-- The reference's result as the run leaves it. -/
def refOut : S16x3x8x8x128.Idx → EReal :=
  shapeCast _ (Host.divf (F := Ideal) (res_main_v103 V0) (broadcastInDim S1024x3x128 ![0, 1, 2] bcast_S1024x3x1_S1024x3x128_0_1_2 (maximumf (Host.sqrt (broadcastInDim S1024x3x1 ![0, 1] bcast_S1024x3_S1024x3x1_0_1 (Host.reduceAdd (mulf (res_main_v103 V0) (res_main_v103 V0)) (constant S_ .f32 0x00000000#32) reducesTo_S1024x3x128_S1024x3_d2 h_S_))) (broadcastInDim S1024x3x1 ![] bcast_S_S1024x3x1 (constant S_ .f32 0x2B8CBCCC#32))))) shapeCasts_S1024x3x128_S16x3x8x8x128

/-- The reference's result, read at an image, a channel, a patch and a position of the descriptor. -/
theorem refOut_read (b : Fin 16) (c : Fin 3) (p q : Fin 8) (l : Fin 128) :
    refOut V0 (ix5 b c p q l)
      = patchDesc (fun i j a => rPix (dX (patchOf (argR V0) b c p q) i j * w 0x3F000000#32)
          (dY (patchOf (argR V0) b c p q) i j * w 0x3F000000#32) a) win win l := by
  have hr : (Shape.reshapeEquiv shapeCasts_S1024x3x128_S16x3x8x8x128) (ix5 b c p q l)
      = ix3 (rowN b c p q) (rowC b c p q) l := by
    refine Shape.reshapeEquiv_eq_of_rowMajor _ ?_
    rw [rowMajor_val3 _ 384 128 rfl rfl, rowMajor_val5 _ 24576 8192 1024 128 rfl rfl rfl rfl]
    show (rowN b c p q).val * 384 + (rowC b c p q).val * 128 + l.val
      = b.val * 24576 + c.val * 8192 + p.val * 1024 + q.val * 128 + l.val
    simp only [rowN, rowC]
    omega
  have h : refOut V0 (ix5 b c p q l) = desc (fun l => res_main_v97 V0 (ix3 (rowN b c p q) (rowC b c p q) l)) l := by
    have hc : ∀ l, clipped (fun l => res_main_v97 V0 (ix3 (rowN b c p q) (rowC b c p q) l)) l
        = res_main_v103 V0 (ix3 (rowN b c p q) (rowC b c p q) l) := fun l => (clip_read V0 _ _ l).symm
    unfold desc norm
    simp only [hc]
    unfold refOut
    rw [Pointwise.shapeCast_apply, hr]
    pointwise
  rw [h]
  unfold patchDesc
  simp only [hist_read, gx_patch, gy_patch]

end Cert.Sift

end
-- ==== Proof.Sift.lean ====
/- The descriptors as one function of the image batch, and the reference's result as that function. -/
module

public import proofs.«01_k».proof.Proof.RefRead

@[expose] public section

set_option maxRecDepth 16384

noncomputable section

namespace Cert.Sift

open Idealize.ShloMosaic Cert.ReferenceIdeal Cert.ReferenceIdeal.Gen Cert.ReferenceIdeal.Value

/-- The descriptor of a patch: half differences with the edges repeated, contributions to the octants, pooling with the
    window on both sides, and normalisation. -/
def patchSift (P : Fin 65 → Fin 65 → EReal) : Fin 128 → EReal :=
  patchDesc (fun i j a => rPix (dX P i j * w 0x3F000000#32) (dY P i j * w 0x3F000000#32) a) win win

/-- The descriptors of a batch: at an image, a channel and a patch, that patch's. -/
def sift (A : S16x3x520x520.Idx → EReal) : S16x3x8x8x128.Idx → EReal :=
  fun y => patchSift (patchOf A (y 0) (y 1) (y 2) (y 3)) (y 4)

/-- The reference's result is the descriptors of its argument. -/
theorem refOut_eq (V0 : Valuation τ sig (Elt Ideal)) : refOut V0 = sift (argR V0) := by
  funext y
  have hy : y = ix5 (y 0) (y 1) (y 2) (y 3) (y 4) := by
    funext a
    match a with
    | ⟨0, _⟩ => rfl
    | ⟨1, _⟩ => rfl
    | ⟨2, _⟩ => rfl
    | ⟨3, _⟩ => rfl
    | ⟨4, _⟩ => rfl
  rw [hy]
  exact refOut_read V0 (y 0) (y 1) (y 2) (y 3) (y 4)

end Cert.Sift

end
-- ==== Proof.Lanes.lean ====
/- How the kernel arranges the eight pooled planes into descriptors: stacked, regrouped by patch, spread over 128 lanes
   and the lanes put into the descriptor's order. -/
module

public import proofs.«01_k».proof.Proof.Gen.KernelIdeal.Frame
public import Idealize.ShloMosaic.Lib.Tactic.CleanTypes
public import proofs.«01_k».proof.Proof.Patch

@[expose] public section

set_option maxRecDepth 16384

noncomputable section

namespace Cert.Sift

open Idealize.ShloMosaic Cert.KernelIdeal Cert.KernelIdeal.Gen
open scoped BigOperators

/-- The eight planes as one array. -/
def stack (P0 P1 P2 P3 P4 P5 P6 P7 : FVec Ideal S32x32 .f32) : FVec Ideal S8x32x32 .f32 :=
  concatenate S8x32x32 0
    [⟨S1x32x32, (shapeCast S1x32x32 P0 shapeCasts_S32x32_S1x32x32 : FVec Ideal S1x32x32 .f32)⟩,
      ⟨S1x32x32, (shapeCast S1x32x32 P1 shapeCasts_S32x32_S1x32x32 : FVec Ideal S1x32x32 .f32)⟩,
      ⟨S1x32x32, (shapeCast S1x32x32 P2 shapeCasts_S32x32_S1x32x32 : FVec Ideal S1x32x32 .f32)⟩,
      ⟨S1x32x32, (shapeCast S1x32x32 P3 shapeCasts_S32x32_S1x32x32 : FVec Ideal S1x32x32 .f32)⟩,
      ⟨S1x32x32, (shapeCast S1x32x32 P4 shapeCasts_S32x32_S1x32x32 : FVec Ideal S1x32x32 .f32)⟩,
      ⟨S1x32x32, (shapeCast S1x32x32 P5 shapeCasts_S32x32_S1x32x32 : FVec Ideal S1x32x32 .f32)⟩,
      ⟨S1x32x32, (shapeCast S1x32x32 P6 shapeCasts_S32x32_S1x32x32 : FVec Ideal S1x32x32 .f32)⟩,
      ⟨S1x32x32, (shapeCast S1x32x32 P7 shapeCasts_S32x32_S1x32x32 : FVec Ideal S1x32x32 .f32)⟩]
    concatenates_S1x32x32_S1x32x32_S1x32x32_S1x32x32_S1x32x32_S1x32x32_S1x32x32_S1x32x32_S8x32x32_d0

/-- The stacked planes regrouped: patch row, patch column, cell column, and bin with cell row. -/
def regroup (Q : FVec Ideal S8x32x32 .f32) : FVec Ideal S8x8x4x32 .f32 :=
  shapeCast S8x8x4x32 (transpose S8x32x32 [0, 2, 1]
    (shapeCast S8x32x32 (transpose S8x8x4x32 [1, 0, 2, 3] (shapeCast S8x8x4x32 Q shapeCasts_S8x32x32_S8x8x4x32)
      transposes_S8x8x4x32_p1_0_2_3_S8x8x4x32) shapeCasts_S8x8x4x32_S8x32x32)
    transposes_S8x32x32_p0_2_1_S8x32x32) shapeCasts_S8x32x32_S8x8x4x32

/-- The four cell columns laid side by side over the lanes. -/
def spread (R : FVec Ideal S8x8x4x32 .f32) : FVec Ideal S8x8x128 .f32 :=
  concatenate S8x8x128 2
    [⟨S8x8x32, (shapeCast S8x8x32 (extractStridedSlice S8x8x1x32 ![0, 0, 0, 0] R slices_S8x8x4x32_o0_0_0_0_S8x8x1x32) shapeCasts_S8x8x1x32_S8x8x32 : FVec Ideal S8x8x32 .f32)⟩,
      ⟨S8x8x32, (shapeCast S8x8x32 (extractStridedSlice S8x8x1x32 ![0, 0, 1, 0] R slices_S8x8x4x32_o0_0_1_0_S8x8x1x32) shapeCasts_S8x8x1x32_S8x8x32 : FVec Ideal S8x8x32 .f32)⟩,
      ⟨S8x8x32, (shapeCast S8x8x32 (extractStridedSlice S8x8x1x32 ![0, 0, 2, 0] R slices_S8x8x4x32_o0_0_2_0_S8x8x1x32) shapeCasts_S8x8x1x32_S8x8x32 : FVec Ideal S8x8x32 .f32)⟩,
      ⟨S8x8x32, (shapeCast S8x8x32 (extractStridedSlice S8x8x1x32 ![0, 0, 3, 0] R slices_S8x8x4x32_o0_0_3_0_S8x8x1x32) shapeCasts_S8x8x1x32_S8x8x32 : FVec Ideal S8x8x32 .f32)⟩]
    concatenates_S8x8x32_S8x8x32_S8x8x32_S8x8x32_S8x8x128_d2

/-- Plane `a` of the stack is the `a`-th plane. -/
theorem stack_read (P : Fin 8 → FVec Ideal S32x32 .f32) (a : Fin 8) (r c : Fin 32) :
    stack (P 0) (P 1) (P 2) (P 3) (P 4) (P 5) (P 6) (P 7) (ix3 a r c) = P a (ix2 r c) := by
  unfold stack
  pointwise
  fin_cases a <;> rfl

/-- Regrouping, read. -/
theorem regroup_read (Q : FVec Ideal S8x32x32 .f32) (p q : Fin 8) (t : Fin 4) (k : Fin 32) :
    regroup Q (ix4 p q t k)
      = Q (ix3 ⟨k.val / 4, by omega⟩ ⟨p.val * 4 + k.val % 4, by omega⟩ ⟨q.val * 4 + t.val, by omega⟩) := by
  unfold regroup
  pointwise

/-- Spreading, read: lane `l` holds cell column `l / 32`. -/
theorem spread_read (R : FVec Ideal S8x8x4x32 .f32) (p q : Fin 8) (l : Fin 128) :
    spread R (ix3 p q l) = R (ix4 p q ⟨l.val / 32, by omega⟩ ⟨l.val % 32, by omega⟩) := by
  unfold spread
  pointwise
  split_ifs <;> refine congrArg R (congrArg₂ (ix4 p q) (Fin.ext ?_) (Fin.ext ?_)) <;> dsimp only [Fin.isValue] <;> first | omega | (show (0 : ℕ) = _; omega) | (show (1 : ℕ) = _; omega)

/-- The lane that holds descriptor position `l`. -/
def laneOf (l : Fin 128) : Fin 128 := ⟨l.val % 4 * 32 + l.val / 4, by omega⟩

/-- The kernel's arrangement of lanes. -/
def perm (A : FVec Ideal S8x8x128 .f32) : FVec Ideal S8x8x128 .f32 :=
  k0_pay36 A (iota .tc S8x8x128 32 [2] iota_S8x8x128_d2_w32) (Scalar.select (Scalar.cmpi .eq 4#32 0#32) 1#32 4#32) k0_pay34 k0_pay35

/-- A descriptor position's word goes to its lane. -/
theorem perm_read (A : FVec Ideal S8x8x128 .f32) (p q : Fin 8) (l : Fin 128) : perm A (ix3 p q l) = A (ix3 p q (laneOf l)) := by
  unfold perm k0_pay36 k0_pay35 k0_pay34
  pointwise
  refine congrArg (fun x => A (ix3 p q x)) (Fin.ext ?_)
  dsimp only
  clear A p q
  decide +kernel +revert

end Cert.Sift

end
-- ==== Proof.KerPix.lean ====
/- The kernel's work on a pixel, read at a pixel of a patch: differences inside the patch, magnitude, octant, share. -/
module

public import proofs.«01_k».proof.Proof.Gen.KernelIdeal.Frame
public import Idealize.ShloMosaic.Lib.Tactic.CleanTypes
public import proofs.«01_k».proof.Proof.Patch

@[expose] public section

set_option maxRecDepth 16384

noncomputable section

namespace Cert.Sift

open Idealize.ShloMosaic Cert.KernelIdeal Cert.KernelIdeal.Gen
open scoped BigOperators

/-- Position `i` of patch `p` along an axis of the image. -/
def at65 (p : Fin 8) (i : Fin 65) : Fin 520 := ⟨p.val * 65 + i.val, by omega⟩

/-- A patch of a channel's image. -/
def imgPatch (X : Vec Ideal S1x1x520x520 .f32) (p q : Fin 8) (i j : Fin 65) : EReal := X (ix4 0 0 (at65 p i) (at65 q j))

theorem rem_last (c : Fin 520) :
    IntOp.cmpi .eq (IntOp.remsi .vector (BitVec.ofNat 32 c.val) 65#32) 64#32 = BitVec.ofBool (c.val % 65 == 64) := by
  decide +kernel +revert

theorem rem_first (c : Fin 520) :
    IntOp.cmpi .eq (IntOp.remsi .vector (BitVec.ofNat 32 c.val) 65#32) 0#32 = BitVec.ofBool (c.val % 65 == 0) := by
  decide +kernel +revert

/-- A choice between a line of 520 and its successor that stays inside the patch is the patch's next position. -/
theorem next_of (f : Fin 520 → EReal) (p : Fin 8) (i : Fin 65) (h1 : ∀ h : (at65 p i).val < 519, 1 + (at65 p i).val < 520)
    (h2 : ¬ (at65 p i).val < 519 → 519 + ((at65 p i).val - 519) < 520) :
    Scalar.select (IntOp.cmpi .eq (IntOp.remsi .vector (BitVec.ofNat 32 (at65 p i).val) 65#32) 64#32) (f (at65 p i))
      (if h : (at65 p i).val < 519 then f ⟨1 + (at65 p i).val, h1 h⟩ else f ⟨519 + ((at65 p i).val - 519), h2 h⟩) = f (at65 p (nxt i)) := by
  rw [rem_last, Scalar.select_ofBool]
  have hv : (at65 p i).val = p.val * 65 + i.val := rfl
  have ht : (at65 p (nxt i)).val = p.val * 65 + (nxt i).val := rfl
  have hn : (nxt i).val = min (i.val + 1) 64 := rfl
  split_ifs with h h' <;> refine congrArg f (Fin.ext ?_) <;> (rw [ht, hn]; simp only [beq_iff_eq] at h; try dsimp only)
  all_goals omega

theorem prev_of (f : Fin 520 → EReal) (p : Fin 8) (i : Fin 65) (h1 : (at65 p i).val < 1 → (at65 p i).val < 520)
    (h2 : ¬ (at65 p i).val < 1 → (at65 p i).val - 1 < 520) :
    Scalar.select (IntOp.cmpi .eq (IntOp.remsi .vector (BitVec.ofNat 32 (at65 p i).val) 65#32) 0#32) (f (at65 p i))
      (if h : (at65 p i).val < 1 then f ⟨(at65 p i).val, h1 h⟩ else f ⟨(at65 p i).val - 1, h2 h⟩) = f (at65 p (prv i)) := by
  rw [rem_first, Scalar.select_ofBool]
  have hv : (at65 p i).val = p.val * 65 + i.val := rfl
  have ht : (at65 p (prv i)).val = p.val * 65 + (prv i).val := rfl
  have hn : (prv i).val = i.val - 1 := rfl
  split_ifs with h h' <;> refine congrArg f (Fin.ext ?_) <;> (rw [ht, hn]; simp only [beq_iff_eq] at h; try dsimp only)
  all_goals omega

variable (X : Vec Ideal S1x1x520x520 .f32)

/-- The horizontal difference at a pixel of a patch. -/
theorem pay5_read (p q : Fin 8) (i j : Fin 65) : k0_pay5 X (ix2 (at65 p i) (at65 q j)) = dX (imgPatch X p q) i j := by
  unfold k0_pay5 k0_pay4 dX imgPatch
  pointwise
  exact congrArg₂ (fun x y : EReal => x - y) (next_of (fun c => X (ix4 0 0 (at65 p i) c)) q j _ _) (prev_of (fun c => X (ix4 0 0 (at65 p i) c)) q j _ _)

/-- The vertical difference. -/
theorem pay6_read (p q : Fin 8) (i j : Fin 65) : k0_pay6 X (ix2 (at65 p i) (at65 q j)) = dY (imgPatch X p q) i j := by
  unfold k0_pay6 k0_pay4 dY imgPatch
  pointwise
  exact congrArg₂ (fun x y : EReal => x - y) (next_of (fun c => X (ix4 0 0 c (at65 q j))) p i _ _) (prev_of (fun c => X (ix4 0 0 c (at65 q j))) p i _ _)

/-- The magnitude. -/
theorem pay7_read (r c : Fin 520) : k0_pay7 X (ix2 r c) = mag (w 0x2FDBE6FF#32) (k0_pay5 X (ix2 r c)) (k0_pay6 X (ix2 r c)) := by
  unfold k0_pay7
  pointwise [mag]

/-- The kernel's choices between octants, by three tests. -/
theorem bin_select (p q r : Bool) :
    Scalar.select (BitVec.ofBool r)
      (w 0x40E00000#32 - Scalar.select (BitVec.ofBool q) (Scalar.select (BitVec.ofBool p) (w 0x40000000#32) (w 0x40400000#32))
        (Scalar.select (BitVec.ofBool p) (w 0x3F800000#32) (w 0x00000000#32)))
      (Scalar.select (BitVec.ofBool q) (Scalar.select (BitVec.ofBool p) (w 0x40000000#32) (w 0x40400000#32))
        (Scalar.select (BitVec.ofBool p) (w 0x3F800000#32) (w 0x00000000#32))) = kBin p q r := by
  cases p <;> cases q <;> cases r <;> rfl

theorem frac_select (p q r : Bool) (t : EReal) :
    Scalar.select (IntOp.xori (IntOp.xori (BitVec.ofBool p) (BitVec.ofBool q)) (BitVec.ofBool r)) (w 0x3F800000#32 - t) t = kFrac p q r t := by
  cases p <;> cases q <;> cases r <;> rfl

/-- The test against the word of zero. -/
theorem isNeg_word (x : EReal) : isNeg x = decide (x < w 0x00000000#32) := by
  unfold isNeg
  exact decide_eq_decide.mpr (by rw [w_zero]; rfl)

/-- The octant as a float. -/
theorem pay14_read (G H : FVec Ideal S520x520 .f32) (r c : Fin 520) :
    k0_pay14 G H (ix2 r c) = (((kOct (G (ix2 r c)) (H (ix2 r c))).val : ℝ) : EReal) := by
  unfold kOct
  rw [← kBin_eq, ← bin_select, isNeg_word, isNeg_word]
  rfl

/-- The magnitude times the fraction. -/
theorem pay15_read (G H M : FVec Ideal S520x520 .f32) (r c : Fin 520) :
    k0_pay15 G H M (ix2 r c) = kF (G (ix2 r c)) (H (ix2 r c)) * M (ix2 r c) := by
  unfold kF
  rw [← frac_select, isNeg_word, isNeg_word]
  rfl

/-- A float against the word of a small number: the test of equality of bins. -/
theorem bin_test (k a : Fin 8) (b : BitVec 16) (hb : Ideal.ofBits .bf16 b = (((a.val : ℝ)) : EReal)) :
    Ideal.cmp .oeq (((k.val : ℝ)) : EReal) (Ideal.ofBits .bf16 b) = BitVec.ofBool (decide (k = a)) := by
  rw [hb]
  show BitVec.ofBool (decide _) = _
  refine congrArg BitVec.ofBool (decide_eq_decide.mpr ?_)
  rw [EReal.coe_eq_coe_iff, Nat.cast_inj]
  exact Fin.ext_iff.symm

end Cert.Sift

end
-- ==== Proof.Chan.lean ====
/- One channel of the kernel: from its image and the two tables of weights to its descriptors. -/
module

public import proofs.«01_k».proof.Proof.Lanes
public import proofs.«01_k».proof.Proof.KerPix

@[expose] public section

set_option maxRecDepth 16384

noncomputable section

namespace Cert.Sift

open Idealize.ShloMosaic Cert.KernelIdeal Cert.KernelIdeal.Gen
open scoped BigOperators

/-- Where the octants are the one of word `b`. -/
def binIs (B : FVec Ideal S520x520 .f32) (b : BitVec 16) : IVec S520x520 1 :=
  cmpf .oeq (truncf .bf16 B bitsLt_bf16_f32) (broadcast S520x520 (Scalar.ofBits .bf16 b))

/-- The contributions to the bin of word `b`, that of word `b'` being the bin before it. -/
def contrib (M B C : FVec Ideal S520x520 .f32) (b b' : BitVec 16) : FVec Ideal S520x520 .bf16 :=
  select (binIs B b) (k0_pay17 M C) (select (binIs B b') (k0_pay18 C) (k0_pay19 (F := Ideal)))

/-- A plane pooled with the weights on both sides. -/
def pooled (wc : FVec Ideal S520x32 .bf16) (wr : FVec Ideal S32x520 .bf16) (Z : FVec Ideal S520x520 .bf16) : FVec Ideal S32x32 .f32 :=
  matmul dot_S32x520_S520x32_S32x32_1_0_0_1_n_n none
    (truncf .bf16 (matmul dot_S32x520_S520x520_S32x520_1_0_0_1_n_n none wr Z (constant S32x520 .f32 0x00000000#32)) bitsLt_bf16_f32)
    wc (constant S32x32 .f32 0x00000000#32)

/-- The histograms of a channel from magnitudes, octants and shares. -/
def hists (wc : FVec Ideal S520x32 .bf16) (wr : FVec Ideal S32x520 .bf16) (M B C : FVec Ideal S520x520 .f32) : FVec Ideal S8x8x128 .f32 :=
  spread (regroup (stack
    (pooled wc wr (contrib M B C 0x0000#16 0x40E0#16)) (pooled wc wr (contrib M B C 0x3F80#16 0x0000#16))
    (pooled wc wr (contrib M B C 0x4000#16 0x3F80#16)) (pooled wc wr (contrib M B C 0x4040#16 0x4000#16))
    (pooled wc wr (contrib M B C 0x4080#16 0x4040#16)) (pooled wc wr (contrib M B C 0x40A0#16 0x4080#16))
    (pooled wc wr (contrib M B C 0x40C0#16 0x40A0#16)) (pooled wc wr (contrib M B C 0x40E0#16 0x40C0#16))))

/-- The normalised and clipped descriptors of histograms. -/
def normalise (D : FVec Ideal S8x8x128 .f32) : FVec Ideal S1x1x8x8x128 .f32 :=
  k0_pay38 (perm D) (k0_pay37 D (iota .tc S8x8x128 32 [2] iota_S8x8x128_d2_w32) (Scalar.select (Scalar.cmpi .eq 4#32 0#32) 1#32 4#32) k0_pay34 k0_pay35)

/-- A channel's descriptors. -/
def chan (wc : FVec Ideal S520x32 .bf16) (wr : FVec Ideal S32x520 .bf16) (X : Vec Ideal S1x1x520x520 .f32) : FVec Ideal S1x1x8x8x128 .f32 :=
  normalise (hists wc wr (k0_pay7 X) (k0_pay14 (k0_pay5 X) (k0_pay6 X)) (k0_pay15 (k0_pay5 X) (k0_pay6 X) (k0_pay7 X)))

variable (x0 : Vec Ideal S1x3x520x520 .f32) (x1 : Vec Ideal S520x32 .bf16) (x2 : Vec Ideal S32x520 .bf16)

/-- What the kernel stores for its first channel. -/
theorem store0 :
    k0_pay38 (k0_pay36 (k0_pay123 x0 x1 x2) (k0_pay122 x0 x1 x2) (Scalar.select (Scalar.cmpi .eq 4#32 0#32) 1#32 4#32) (k0_pay124 x0 x1 x2) (k0_pay125 x0 x1 x2)) (k0_pay37 (k0_pay123 x0 x1 x2) (k0_pay122 x0 x1 x2) (Scalar.select (Scalar.cmpi .eq 4#32 0#32) 1#32 4#32) (k0_pay124 x0 x1 x2) (k0_pay125 x0 x1 x2))
      = chan (k0_pay2 (View.ld x1 r0_0)) (k0_pay3 (View.ld x2 r0_1)) (View.ld x0 r0_2) := by
  rfl

/-- And for the other two. -/
theorem store1 :
    k0_pay75 (k0_pay70 (k0_pay69 (k0_pay115 x0 x1 x2) (k0_pay116 x0 x1 x2) (k0_pay57 (k0_pay130 x0 x1 x2) (k0_pay131 x0 x1 x2) (k0_pay132 x0 x1 x2) (k0_pay133 x0 x1 x2) (k0_pay134 x0 x1 x2) (k0_pay135 x0 x1 x2)) (k0_pay58 (k0_pay130 x0 x1 x2) (k0_pay131 x0 x1 x2) (k0_pay132 x0 x1 x2) (k0_pay133 x0 x1 x2) (k0_pay134 x0 x1 x2) (k0_pay135 x0 x1 x2)) (k0_pay59 (F := Ideal)) (k0_pay60 (k0_pay130 x0 x1 x2) (k0_pay133 x0 x1 x2) (k0_pay134 x0 x1 x2) (k0_pay135 x0 x1 x2)) (k0_pay61 (k0_pay130 x0 x1 x2) (k0_pay133 x0 x1 x2) (k0_pay134 x0 x1 x2) (k0_pay135 x0 x1 x2)) (k0_pay62 (k0_pay130 x0 x1 x2) (k0_pay133 x0 x1 x2) (k0_pay134 x0 x1 x2) (k0_pay135 x0 x1 x2)) (k0_pay63 (k0_pay130 x0 x1 x2) (k0_pay133 x0 x1 x2) (k0_pay134 x0 x1 x2) (k0_pay135 x0 x1 x2)) (k0_pay64 (k0_pay130 x0 x1 x2) (k0_pay133 x0 x1 x2) (k0_pay134 x0 x1 x2) (k0_pay135 x0 x1 x2)) (k0_pay65 (k0_pay130 x0 x1 x2) (k0_pay133 x0 x1 x2) (k0_pay134 x0 x1 x2) (k0_pay135 x0 x1 x2)) (k0_pay66 (k0_pay130 x0 x1 x2) (k0_pay133 x0 x1 x2) (k0_pay134 x0 x1 x2) (k0_pay135 x0 x1 x2)) (k0_pay67 (k0_pay130 x0 x1 x2) (k0_pay133 x0 x1 x2) (k0_pay134 x0 x1 x2) (k0_pay135 x0 x1 x2)) (k0_pay68 (k0_pay115 x0 x1 x2) (k0_pay116 x0 x1 x2) (k0_pay130 x0 x1 x2) (k0_pay131 x0 x1 x2) (k0_pay132 x0 x1 x2) (k0_pay133 x0 x1 x2) (k0_pay134 x0 x1 x2) (k0_pay135 x0 x1 x2)))) (iota .tc S8x8x128 32 [2] iota_S8x8x128_d2_w32) k0_pay71 k0_pay72 k0_pay73 k0_pay74
      = chan (k0_pay2 (View.ld x1 r0_0)) (k0_pay3 (View.ld x2 r0_1)) (View.ld x0 r0_4) := by
  rfl

theorem store2 :
    k0_pay1 (k0_pay113 (k0_pay152 x0 x1 x2) (k0_pay151 x0 x1 x2) (k0_pay153 x0 x1 x2) (k0_pay154 x0 x1 x2)) (k0_pay114 (k0_pay152 x0 x1 x2) (k0_pay151 x0 x1 x2) (k0_pay153 x0 x1 x2) (k0_pay154 x0 x1 x2))
      = chan (k0_pay2 (View.ld x1 r0_0)) (k0_pay3 (View.ld x2 r0_1)) (View.ld x0 r0_6) := by
  rfl

end Cert.Sift

end
-- ==== Proof.KerRead.lean ====
/- The kernel's descriptors of a channel, read element by element: each is the descriptor of its patch's contributions. -/
module

public import proofs.«01_k».proof.Proof.Chan

@[expose] public section

set_option maxRecDepth 16384

noncomputable section

namespace Cert.Sift

open Idealize.ShloMosaic Cert.KernelIdeal Cert.KernelIdeal.Gen
open scoped BigOperators

/-- A sum over an axis of the image, patch by patch. -/
theorem sum_patches (f : Fin 520 → EReal) : ∑ x, f x = ∑ p : Fin 8, ∑ i : Fin 65, f (at65 p i) := by
  rw [← Fintype.sum_prod_type', ← (finProdFinEquiv (m := 8) (n := 65)).sum_comp]
  refine Finset.sum_congr rfl fun y _ => congrArg f (Fin.ext ?_)
  show y.2.val + 65 * y.1.val = y.1.val * 65 + y.2.val
  omega

/-- A sum whose terms are zero outside patch `p` is the sum over that patch. -/
theorem sum_own (f : Fin 520 → EReal) (p : Fin 8) (h : ∀ p' i, p' ≠ p → f (at65 p' i) = 0) : ∑ x, f x = ∑ i, f (at65 p i) := by
  rw [sum_patches]
  exact Finset.sum_eq_single p (fun p' _ hp => Finset.sum_eq_zero fun i _ => h p' i hp) (fun hp => absurd (Finset.mem_univ p) hp)

/-- The words of the eight bins, and the numbers that they denote. -/
def binWord (a : Fin 8) : BitVec 16 :=
  match a with
  | 0 => 0x0000#16 | 1 => 0x3F80#16 | 2 => 0x4000#16 | 3 => 0x4040#16 | 4 => 0x4080#16 | 5 => 0x40A0#16 | 6 => 0x40C0#16 | 7 => 0x40E0#16

theorem binWord_val (a : Fin 8) : Ideal.ofBits .bf16 (binWord a) = (((a.val : ℝ)) : EReal) := by
  fin_cases a <;> simp [binWord, Ideal.ofBits, Ideal.ieee, -EReal.coe_mul] <;> norm_cast <;> norm_num

theorem pooled_read (wc : FVec Ideal S520x32 .bf16) (wr : FVec Ideal S32x520 .bf16) (Z : FVec Ideal S520x520 .bf16) (r c : Fin 32) :
    pooled wc wr Z (ix2 r c) = ∑ y : Fin 520, (∑ x : Fin 520, wr (ix2 r x) * Z (ix2 x y) : EReal) * wc (ix2 y c) := by
  unfold pooled
  pointwise

theorem prev_bin (k a : Fin 8) : (k = a - 1) = (k + 1 = a) := propext (by decide +revert)

/-- The contribution of a pixel whose octant is `k` to bin `a`. -/
theorem contrib_read (M B C : FVec Ideal S520x520 .f32) (r c : Fin 520) (k : Fin 8) (hB : B (ix2 r c) = (((k.val : ℝ)) : EReal)) (a : Fin 8) :
    contrib M B C (binWord a) (binWord (a - 1)) (ix2 r c)
      = if k = a then (M (ix2 r c) - C (ix2 r c) : EReal) else if k + 1 = a then (C (ix2 r c) : EReal) else 0 := by
  have hp := prev_bin k a
  have h0 : k0_pay19 (F := Ideal) (ix2 r c) = (0 : EReal) := by
    unfold k0_pay19
    pointwise
  have h1 : contrib M B C (binWord a) (binWord (a - 1)) (ix2 r c)
      = Scalar.select (Ideal.cmp .oeq (B (ix2 r c)) (Ideal.ofBits .bf16 (binWord a))) (M (ix2 r c) - C (ix2 r c) : EReal)
          (Scalar.select (Ideal.cmp .oeq (B (ix2 r c)) (Ideal.ofBits .bf16 (binWord (a - 1)))) (C (ix2 r c) : EReal) (k0_pay19 (F := Ideal) (ix2 r c))) := rfl
  rw [h1, hB, bin_test k a _ (binWord_val a), bin_test k (a - 1) _ (binWord_val (a - 1)), h0, Scalar.select_ofBool, Scalar.select_ofBool]
  simp only [decide_eq_true_eq, hp]

/-- The pixel's contribution from its two differences. -/
theorem contrib_pix (X : Vec Ideal S1x1x520x520 .f32) (p q : Fin 8) (i j : Fin 65) (a : Fin 8) :
    contrib (k0_pay7 X) (k0_pay14 (k0_pay5 X) (k0_pay6 X)) (k0_pay15 (k0_pay5 X) (k0_pay6 X) (k0_pay7 X))
      (binWord a) (binWord (a - 1)) (ix2 (at65 p i) (at65 q j))
      = kPix (dX (imgPatch X p q) i j) (dY (imgPatch X p q) i j) a := by
  rw [contrib_read _ _ _ _ _ _ (pay14_read _ _ _ _), pay15_read, pay7_read, pay5_read, pay6_read]
  rfl

variable (wc : FVec Ideal S520x32 .bf16) (wr : FVec Ideal S32x520 .bf16) (X : Vec Ideal S1x1x520x520 .f32)
  (V U : Fin 4 → Fin 65 → EReal)

/-- The tables of weights hold a window at every patch's own positions and zero elsewhere. -/
def Tables : Prop :=
  (∀ p s p' i, wr (ix2 (⟨p.val * 4 + s.val, by omega⟩ : Fin 32) (at65 p' i)) = if p' = p then V s i else (0 : EReal))
    ∧ (∀ q t q' j, wc (ix2 (at65 q' j) (⟨q.val * 4 + t.val, by omega⟩ : Fin 32)) = if q' = q then U t j else (0 : EReal))

/-- The pooled plane of a bin at a patch's cell is the pool of that patch's contributions. -/
theorem pooled_patch (h : Tables wc wr V U) (p q : Fin 8) (s t : Fin 4) (a : Fin 8) :
    pooled wc wr (contrib (k0_pay7 X) (k0_pay14 (k0_pay5 X) (k0_pay6 X)) (k0_pay15 (k0_pay5 X) (k0_pay6 X) (k0_pay7 X))
      (binWord a) (binWord (a - 1))) (ix2 ⟨p.val * 4 + s.val, by omega⟩ ⟨q.val * 4 + t.val, by omega⟩)
      = pool (fun i j a => kPix (dX (imgPatch X p q) i j) (dY (imgPatch X p q) i j) a) V U a s t := by
  rw [pooled_read, sum_own _ q]
  · unfold pool
    refine Finset.sum_congr rfl fun j _ => ?_
    rw [h.2, if_pos rfl, sum_own _ p]
    · refine congrArg (fun x : EReal => x * U t j) (Finset.sum_congr rfl fun i _ => ?_)
      rw [h.1, if_pos rfl, contrib_pix]
    · intro p' i hp
      rw [h.1, if_neg hp, zero_mul]
  · intro q' j hq
    rw [h.2, if_neg hq, mul_zero]

/-- The histograms at the lane of a descriptor position. -/
theorem hists_read (h : Tables wc wr V U) (p q : Fin 8) (l : Fin 128) :
    hists wc wr (k0_pay7 X) (k0_pay14 (k0_pay5 X) (k0_pay6 X)) (k0_pay15 (k0_pay5 X) (k0_pay6 X) (k0_pay7 X)) (ix3 p q (laneOf l))
      = pool (fun i j a => kPix (dX (imgPatch X p q) i j) (dY (imgPatch X p q) i j) a) V U (lBin l) (lRow l) (lCol l) := by
  rw [← pooled_patch wc wr X V U h]
  unfold hists
  rw [spread_read, regroup_read]
  refine (stack_read (fun a => pooled wc wr (contrib (k0_pay7 X) (k0_pay14 (k0_pay5 X) (k0_pay6 X))
    (k0_pay15 (k0_pay5 X) (k0_pay6 X) (k0_pay7 X)) (binWord a) (binWord (a - 1)))) _ _ _).trans ?_
  have hl : (laneOf l).val % 32 = l.val / 4 := by
    show (l.val % 4 * 32 + l.val / 4) % 32 = l.val / 4
    rw [Nat.mul_add_mod', Nat.mod_eq_of_lt (by omega)]
  have hd : (laneOf l).val / 32 = l.val % 4 := by
    show (l.val % 4 * 32 + l.val / 4) / 32 = l.val % 4
    omega
  have e1 : (⟨(laneOf l).val % 32 / 4, by omega⟩ : Fin 8) = lBin l := Fin.ext (by simp only [hl, lBin]; omega)
  have e2 : (⟨p.val * 4 + (laneOf l).val % 32 % 4, by omega⟩ : Fin 32) = ⟨p.val * 4 + (lRow l).val, by omega⟩ :=
    Fin.ext (by simp only [hl, lRow])
  have e3 : (⟨q.val * 4 + (laneOf l).val / 32, by omega⟩ : Fin 32) = ⟨q.val * 4 + (lCol l).val, by omega⟩ :=
    Fin.ext (by simp only [hd, lCol])
  dsimp only
  rw [e1, e2, e3]

/-- Normalisation, read. -/
theorem normalise_read (D : FVec Ideal S8x8x128 .f32) (p q : Fin 8) (l : Fin 128) :
    normalise D (ix5 0 0 p q l) = desc (fun l => D (ix3 p q (laneOf l))) l := by
  have h : (fun l => (D (ix3 p q (laneOf l)) : EReal)) = fun l => perm D (ix3 p q l) := funext fun l => (perm_read D p q l).symm
  rw [h]
  have hs : k0_pay37 D (iota .tc S8x8x128 32 [2] iota_S8x8x128_d2_w32) (Scalar.select (Scalar.cmpi .eq 4#32 0#32) 1#32 4#32) k0_pay34 k0_pay35 (ix2 p q)
      = ∑ l : Fin 128, (perm D (ix3 p q l) * perm D (ix3 p q l) : EReal) := by
    unfold k0_pay37
    pointwise
    rfl
  unfold normalise k0_pay38
  pointwise [desc, clipped, norm]
  rw [hs]

/-- A channel's descriptors, read. -/
theorem chan_read (h : Tables wc wr V U) (p q : Fin 8) (l : Fin 128) :
    chan wc wr X (ix5 0 0 p q l)
      = patchDesc (fun i j a => kPix (dX (imgPatch X p q) i j) (dY (imgPatch X p q) i j) a) V U l := by
  unfold chan patchDesc
  rw [normalise_read]
  simp only [hists_read wc wr X V U h]

end Cert.Sift

end
-- ==== Proof.Blocks.lean ====
/- What a grid point reads and writes: the image batch and the tables of weights as the launch's blocks, and the result
   block as its three channels. -/
module

public import proofs.«01_k».proof.Proof.Chan
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Sift

open Idealize.ShloMosaic Idealize.ShloMosaic.TcCoe Cert.KernelIdeal Cert.KernelIdeal.Gen

/-- Point `t` works on image `t` of the batch and on the whole of each table. -/
theorem idx_img : ∀ t : Fin cfg0.N, win0_0.index t = ![t.val, 0, 0, 0] := (by decide +kernel : ∀ t : Fin grid0.N, _)
theorem idx_cols : ∀ t : Fin cfg0.N, win0_1.index t = ![0, 0] := (by decide +kernel : ∀ t : Fin grid0.N, _)
theorem idx_rows : ∀ t : Fin cfg0.N, win0_2.index t = ![0, 0] := (by decide +kernel : ∀ t : Fin grid0.N, _)
theorem idx_out : ∀ t : Fin cfg0.N, win0_3.index t = ![t.val, 0, 0, 0, 0] := (by decide +kernel : ∀ t : Fin grid0.N, _)

/-- The image of a point. -/
def imgAt (t : Fin cfg0.N) : Fin 16 := ⟨t.val, lt_of_lt_of_eq t.isLt N_0⟩

variable (m : (ℓ : Loc nD τ sig) → Buf (Elt Ideal) ℓ) (c : Dev nD)

/-- The image batch as launched. -/
abbrev argK : S16x3x520x520.Idx → EReal := m ((c : Thread nD τ).loc main_arg0)

/-- The block of images at a point is that image of the batch. -/
theorem img_read (t : Fin cfg0.N) (k : Fin 3) (r s : Fin 520) :
    (iblk m c 0 t : S1x3x520x520.Idx → EReal) (ix4 0 k r s) = argK m c (ix4 (imgAt t) k r s) := by
  unfold argK
  rw [← V_main_arg0 m c]
  show V m c main_arg0 (((cfg0.win 0).blk t).view.emb (ix4 0 k r s)) = V m c main_arg0 (ix4 (imgAt t) k r s)
  refine congrArg (V m c main_arg0) (funext fun a => Fin.ext ?_)
  have e := idx_img t
  match a with
  | ⟨0, _⟩ => show win0_0.index t (0 : Fin 4) * 1 + 1 * 0 = t.val; rw [e]; simp
  | ⟨1, _⟩ => show win0_0.index t (1 : Fin 4) * 3 + 1 * k.val = k.val; rw [e]; simp
  | ⟨2, _⟩ => show win0_0.index t (2 : Fin 4) * 520 + 1 * r.val = r.val; rw [e]; simp
  | ⟨3, _⟩ => show win0_0.index t (3 : Fin 4) * 520 + 1 * s.val = s.val; rw [e]; simp

/-- A table loaded whole is the table. -/
theorem ld_cols (X : Vec Ideal S520x32 .bf16) (y : Fin 520) (x : Fin 32) : k0_pay2 (View.ld X r0_0) (ix2 y x) = X (ix2 y x) := by
  unfold k0_pay2
  rw [shapeCast_self]
  refine congrArg X (funext fun a => Fin.ext ?_)
  match a with
  | ⟨0, _⟩ => show 0 + 1 * y.val = y.val; omega
  | ⟨1, _⟩ => show 0 + 1 * x.val = x.val; omega

theorem ld_rows (X : Vec Ideal S32x520 .bf16) (x : Fin 32) (y : Fin 520) : k0_pay3 (View.ld X r0_1) (ix2 x y) = X (ix2 x y) := by
  unfold k0_pay3
  rw [shapeCast_self]
  refine congrArg X (funext fun a => Fin.ext ?_)
  match a with
  | ⟨0, _⟩ => show 0 + 1 * x.val = x.val; omega
  | ⟨1, _⟩ => show 0 + 1 * y.val = y.val; omega

/-- The table along columns as the region finds it. -/
theorem V_cols : V m c main_v0 = (truncf (F := Ideal) .bf16 (fun i => FloatOps.ofBits .f32 (lit0 (S520x32.rowMajor i)) : FVec Ideal S520x32 .f32) bitsLt_bf16_f32) := by
  entry_read
  rfl

theorem V_rows : V m c main_v1 = (truncf (F := Ideal) .bf16 (fun i => FloatOps.ofBits .f32 (lit1 (S32x520.rowMajor i)) : FVec Ideal S32x520 .f32) bitsLt_bf16_f32) := by
  entry_read
  rfl

theorem cols_read (t : Fin cfg0.N) (y : Fin 520) (x : Fin 32) :
    (iblk m c 1 t : S520x32.Idx → EReal) (ix2 y x) = w (lit0 (S520x32.rowMajor (ix2 y x))) := by
  have h1 : (iblk m c 1 t : S520x32.Idx → EReal) (ix2 y x) = V m c main_v0 (ix2 y x) := by
    show V m c main_v0 (((cfg0.win 1).blk t).view.emb (ix2 y x)) = V m c main_v0 (ix2 y x)
    refine congrArg (V m c main_v0) (funext fun a => Fin.ext ?_)
    have e := idx_cols t
    match a with
    | ⟨0, _⟩ => show win0_1.index t (0 : Fin 2) * 520 + 1 * y.val = y.val; rw [e]; simp
    | ⟨1, _⟩ => show win0_1.index t (1 : Fin 2) * 32 + 1 * x.val = x.val; rw [e]; simp
  rw [h1, V_cols]
  rfl

theorem rows_read (t : Fin cfg0.N) (x : Fin 32) (y : Fin 520) :
    (iblk m c 2 t : S32x520.Idx → EReal) (ix2 x y) = w (lit1 (S32x520.rowMajor (ix2 x y))) := by
  have h1 : (iblk m c 2 t : S32x520.Idx → EReal) (ix2 x y) = V m c main_v1 (ix2 x y) := by
    show V m c main_v1 (((cfg0.win 2).blk t).view.emb (ix2 x y)) = V m c main_v1 (ix2 x y)
    refine congrArg (V m c main_v1) (funext fun a => Fin.ext ?_)
    have e := idx_rows t
    match a with
    | ⟨0, _⟩ => show win0_2.index t (0 : Fin 2) * 32 + 1 * x.val = x.val; rw [e]; simp
    | ⟨1, _⟩ => show win0_2.index t (1 : Fin 2) * 520 + 1 * y.val = y.val; rw [e]; simp
  rw [h1, V_rows]
  rfl

/-- The image of one channel that a point loads. -/
def chanImg (x0 : Vec Ideal S1x3x520x520 .f32) (k : Fin 3) : Vec Ideal S1x1x520x520 .f32 := fun y => x0 (ix4 0 k (y 2) (y 3))

theorem ld_img0 (x0 : Vec Ideal S1x3x520x520 .f32) : View.ld x0 r0_2 = chanImg x0 0 := by
  funext y
  refine congrArg x0 (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 0 + 1 * (y 2).val = (y 2).val; omega
  | ⟨3, _⟩ => show 0 + 1 * (y 3).val = (y 3).val; omega

theorem ld_img1 (x0 : Vec Ideal S1x3x520x520 .f32) : View.ld x0 r0_4 = chanImg x0 1 := by
  funext y
  refine congrArg x0 (funext fun a => Fin.ext ?_)
  match a with
  | ⟨0, _⟩ => show 0 + 1 * (y 0).val = 0; have := (y 0).isLt; change (y 0).val < 1 at this; omega
  | ⟨1, _⟩ => show 1 + 1 * (y 1).val = 1; have := (y 1).isLt; change (y 1).val < 1 at this; omega
  | ⟨2, _⟩ => show 0 + 1 * (y 2).val = (y 2).val; omega
  | ⟨3, _⟩ => show 0 + 1 * (y 3).val = (y 3).val; omega

theorem ld_img2 (x0 : Vec Ideal S1x3x520x520 .f32) : View.ld x0 r0_6 = chanImg x0 2 := by
  funext y
  refine congrArg x0 (funext fun a => Fin.ext ?_)
  match a with
  | ⟨0, _⟩ => show 0 + 1 * (y 0).val = 0; have := (y 0).isLt; change (y 0).val < 1 at this; omega
  | ⟨1, _⟩ => show 2 + 1 * (y 1).val = 2; have := (y 1).isLt; change (y 1).val < 1 at this; omega
  | ⟨2, _⟩ => show 0 + 1 * (y 2).val = (y 2).val; omega
  | ⟨3, _⟩ => show 0 + 1 * (y 3).val = (y 3).val; omega

/-- A stored channel at a place of the block. -/
theorem tile_read (wc : FVec Ideal S520x32 .bf16) (wr : FVec Ideal S32x520 .bf16) (x0 : Vec Ideal S1x3x520x520 .f32)
    (o k : Fin 3) (p q : Fin 8) (l : Fin 128) (x : S1x1x8x8x128.Idx) (h1 : k.val = o.val + (x 1).val) (h2 : p.val = 0 + (x 2).val)
    (h3 : q.val = 0 + (x 3).val) (h4 : l.val = 0 + (x 4).val) :
    chan wc wr (chanImg x0 o) x = chan wc wr (chanImg x0 k) (ix5 0 0 p q l) := by
  have l0 : (x 0).val < 1 := (x 0).isLt
  have l1 : (x 1).val < 1 := (x 1).isLt
  have hk : o = k := Fin.ext (by omega)
  have hx : x = ix5 0 0 p q l := by
    funext a
    refine Fin.ext ?_
    match a with
    | ⟨0, _⟩ => show (x 0).val = 0; omega
    | ⟨1, _⟩ => show (x 1).val = 0; omega
    | ⟨2, _⟩ => show (x 2).val = p.val; omega
    | ⟨3, _⟩ => show (x 3).val = q.val; omega
    | ⟨4, _⟩ => show (x 4).val = l.val; omega
  rw [hk, hx]

/-- The block that a point writes, channel by channel. -/
theorem out_read (x0 : Vec Ideal S1x3x520x520 .f32) (x1 : Vec Ideal S520x32 .bf16) (x2 : Vec Ideal S32x520 .bf16)
    (k : Fin 3) (p q : Fin 8) (l : Fin 128) :
    out0_3 x0 x1 x2 (ix5 0 k p q l)
      = chan (k0_pay2 (View.ld x1 r0_0)) (k0_pay3 (View.ld x2 r0_1)) (chanImg x0 k) (ix5 0 0 p q l) := by
  unfold out0_3
  rw [store0, store1, store2, ld_img0, ld_img1, ld_img2]
  refine View.canon_eq_of_allAt _ _ _ (cover0_3 _ _ _ _) ?_
  refine View.allAt_cons_unit _ _ _ _ _ (fun x h => tile_read _ _ x0 2 k p q l x (h 1) (h 2) (h 3) (h 4)) ?_
  refine View.allAt_cons_unit _ _ _ _ _ (fun x h => tile_read _ _ x0 1 k p q l x (h 1) (h 2) (h 3) (h 4)) ?_
  refine View.allAt_cons_unit _ _ _ _ _ (fun x h => tile_read _ _ x0 0 k p q l x (h 1) (h 2) (h 3) (h 4)) ?_
  exact View.allAt_nil _ _

end Cert.Sift

end
-- ==== Proof.RowTable.lean ====
/- The kernel's table of weights along rows: the window of every patch at that patch's own positions, zero elsewhere. -/
module

public import proofs.«01_k».proof.KernelIdeal
public import proofs.«01_k».proof.Proof.Window

@[expose] public section

set_option maxRecDepth 16384

namespace Cert.Sift

open Idealize.ShloMosaic

/-- Row `4 p + s` of the table along rows is the window's cell `s` at patch `p`, zero at the other patches. -/
theorem rowTable (p : Fin 8) (s : Fin 4) (p' : Fin 8) (i : Fin 65) :
    Cert.KernelIdeal.lit1 ⟨(p.val * 4 + s.val) * 520 + (p'.val * 65 + i.val), by omega⟩
      = if p' = p then winWord s i else 0#32 := by
  decide +kernel +revert

end Cert.Sift
-- ==== Proof.ColTable.lean ====
/- The kernel's table of weights along columns: half the window of every patch at that patch's own positions, zero elsewhere. -/
module

public import proofs.«01_k».proof.KernelIdeal
public import proofs.«01_k».proof.Proof.Window

@[expose] public section

set_option maxRecDepth 16384

namespace Cert.Sift

open Idealize.ShloMosaic

/-- Column `4 q + t` of the table along columns is half the window's cell `t` at patch `q`, zero at the other patches. -/
theorem colTable (q : Fin 8) (t : Fin 4) (q' : Fin 8) (j : Fin 65) :
    Cert.KernelIdeal.lit0 ⟨(q'.val * 65 + j.val) * 32 + (q.val * 4 + t.val), by omega⟩
      = if q' = q then halfWord (winWord t j) else 0#32 := by
  decide +kernel +revert

end Cert.Sift
-- ==== Proof.KerRun.lean ====
/- The kernel's result array after the run: the descriptors of the image batch, every element of it. -/
module

public import proofs.«01_k».proof.Proof.Sift
public import proofs.«01_k».proof.Proof.KerRead
public import proofs.«01_k».proof.Proof.Blocks
public import proofs.«01_k».proof.Proof.RowTable
public import proofs.«01_k».proof.Proof.ColTable

@[expose] public section

set_option maxRecDepth 16384

noncomputable section

namespace Cert.Sift

open Idealize.ShloMosaic Idealize.ShloMosaic.TcCoe Cert.KernelIdeal Cert.KernelIdeal.Gen Cert.KernelIdeal.Value Idealize.SL.Sem

variable (m : (ℓ : Loc nD τ sig) → Buf (Elt Ideal) ℓ) (c : Dev nD)

/-- The float of a word chosen by a test, zero's otherwise. -/
theorem w_ite {P : Prop} [Decidable P] (b : BitVec 32) : w (if P then b else 0#32) = if P then w b else 0 := by
  split_ifs
  · rfl
  · exact w_zero

/-- The tables that a point loads hold the window along rows and half of it along columns. -/
theorem tables_of (t : Fin cfg0.N) :
    Tables (k0_pay2 (View.ld (iblk m c 1 t) r0_0)) (k0_pay3 (View.ld (iblk m c 2 t) r0_1)) win winHalf := by
  constructor
  · intro p s p' i
    rw [ld_rows]
    refine (rows_read m c t _ _).trans ?_
    have h : w (lit1 (S32x520.rowMajor (ix2 (⟨p.val * 4 + s.val, by omega⟩ : Fin 32) (at65 p' i))))
        = w (lit1 ⟨(p.val * 4 + s.val) * 520 + (p'.val * 65 + i.val), by omega⟩) :=
      congrArg (fun k => w (lit1 k)) (Fin.ext (rowMajor_val2 _ 520 rfl))
    rw [h, rowTable, w_ite]
    rfl
  · intro q t' q' j
    rw [ld_cols]
    refine (cols_read m c t _ _).trans ?_
    have h : w (lit0 (S520x32.rowMajor (ix2 (at65 q' j) (⟨q.val * 4 + t'.val, by omega⟩ : Fin 32))))
        = w (lit0 ⟨(q'.val * 65 + j.val) * 32 + (q.val * 4 + t'.val), by omega⟩) :=
      congrArg (fun k => w (lit0 k)) (Fin.ext (rowMajor_val2 _ 32 rfl))
    rw [h, colTable, w_ite]
    rfl

/-- The patch of a channel that a point loads is the patch of the batch. -/
theorem imgPatch_eq (t : Fin cfg0.N) (k : Fin 3) (p q : Fin 8) :
    imgPatch (chanImg (iblk m c 0 t) k) p q = patchOf (argK m c) (imgAt t) k p q := by
  funext i j
  exact img_read m c t k (at65 p i) (at65 q j)

/-- What a point writes at a place of its block. -/
theorem point_read (t : Fin cfg0.N) (k : Fin 3) (p q : Fin 8) (l : Fin 128) :
    out0_3 (iblk m c 0 t) (iblk m c 1 t) (iblk m c 2 t) (ix5 0 k p q l)
      = patchSift (patchOf (argK m c) (imgAt t) k p q) l := by
  rw [out_read]
  refine (chan_read _ _ (chanImg (iblk m c 0 t) k) win winHalf (tables_of m c t) p q l).trans ?_
  rw [imgPatch_eq]
  exact congrFun (patch_eq _ _ win winHalf win_half win_pos) l

/-- A place of a point's block, in the array. -/
theorem emb_out (t : Fin cfg0.N) (y : S1x3x8x8x128.Idx) :
    ((cfg0.win 3).blk t).view.emb y = (ix5 (imgAt t) (y 1) (y 2) (y 3) (y 4) : S16x3x8x8x128.Idx) := by
  funext a
  refine Fin.ext ?_
  have e := idx_out t
  have l0 : (y 0).val < 1 := (y 0).isLt
  match a with
  | ⟨0, _⟩ => show win0_3.index t (0 : Fin 5) * 1 + 1 * (y 0).val = t.val; rw [e]; simp
  | ⟨1, _⟩ => show win0_3.index t (1 : Fin 5) * 3 + 1 * (y 1).val = (y 1).val; rw [e]; simp
  | ⟨2, _⟩ => show win0_3.index t (2 : Fin 5) * 8 + 1 * (y 2).val = (y 2).val; rw [e]; simp
  | ⟨3, _⟩ => show win0_3.index t (3 : Fin 5) * 8 + 1 * (y 3).val = (y 3).val; rw [e]; simp
  | ⟨4, _⟩ => show win0_3.index t (4 : Fin 5) * 128 + 1 * (y 4).val = (y 4).val; rw [e]; simp

/-- What a point writes is its block of the descriptors. -/
theorem point_sift (t : Fin cfg0.N) (y : S1x3x8x8x128.Idx) :
    out0_3 (iblk m c 0 t) (iblk m c 1 t) (iblk m c 2 t) y = sift (argK m c) (((cfg0.win 3).blk t).view.emb y) := by
  have hy : y = ix5 0 (y 1) (y 2) (y 3) (y 4) := by
    funext a
    match a with
    | ⟨0, _⟩ => exact Fin.ext (by have l0 : (y 0).val < 1 := (y 0).isLt; show (y 0).val = 0; omega)
    | ⟨1, _⟩ => rfl
    | ⟨2, _⟩ => rfl
    | ⟨3, _⟩ => rfl
    | ⟨4, _⟩ => rfl
  rw [emb_out]
  refine (congrArg (out0_3 (iblk m c 0 t) (iblk m c 1 t) (iblk m c 2 t)) hy).trans ?_
  exact point_read m c t (y 1) (y 2) (y 3) (y 4)

attribute [local irreducible] sift out0_3

/-- What a point writes back is its block of the descriptors. -/
theorem flushed_sift (t : Fin cfg0.N) :
    (dats m 0 c).flushed 3 t = ((cfg0.win 3).blk t).view.read (Elt Ideal) (sift (argK m c)) := by
  rw [flushed3]
  funext y
  exact point_sift m c t y

/-- The blocks of the sixteen points fill the array. -/
theorem out_covers : (cfg0.win 3).Covers := by decide +kernel

/-- The result array after the run is the descriptors of the batch. -/
theorem arr_eq : (dats m 0 c).arrAt 3 cfg0.N = sift (argK m c) :=
  (dats m 0 c).arrAt_eq_of_cover 3 (sift (argK m c)) (fun t _ => flushed_sift m c t) fun i => Pipeline.Window.Covers.cover (cfg0.win 3) out_covers (arr_whole0 3) i

/-- The kernel's run: the result is the descriptors of the argument, which stays as it was. -/
theorem run_kernel (ρ : Dev nD → PrngReg) :
    θ_run defs (onTc (τ := τ) (main (F := Ideal))) ⟨m, fun _ => 0, ρ⟩ fun r => ∀ c : Dev nD,
      r.2.mem ((c : Thread nD τ).loc main_v2) = sift (argK m c)
      ∧ r.2.mem ((c : Thread nD τ).loc main_arg0) = m ((c : Thread nD τ).loc main_arg0) :=
  (θ_run defs _ _).mono (fun _ h c => ⟨(h c).1.trans (arr_eq m c), (h c).2⟩) (run_blocks m ρ)

end Cert.Sift

end
-- ==== Proof.RefRun.lean ====
/- The reference's run: its result is the descriptors of its argument, which stays as it was. -/
module

public import proofs.«01_k».proof.Proof.Sift

@[expose] public section

set_option maxRecDepth 16384

noncomputable section

namespace Cert.Sift

open Idealize.ShloMosaic Idealize.ShloMosaic.TcCoe Cert.ReferenceIdeal Idealize.SL.Sem

/-- The reference's result is the descriptors of the argument; the argument is left unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = sift (m ((c.tc : Thread nD τ).loc main_arg0))
      ∧ r.2.mem ((c.tc : Thread nD τ).loc main_arg0) = m ((c.tc : Thread nD τ).loc main_arg0) :=
  (θ_run defs _ _).mono (fun _ h c => ⟨(h c).1.trans (refOut_eq (StableHlo.launchContents m c)), (h c).2⟩)
    (Cert.ReferenceIdeal.Value.run m ρ)

/-- The reference runs, leaves its argument unchanged and its semaphores at zero: it has none. -/
theorem frame_reference (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (Cert.ReferenceIdeal.Value.run m ρ)

end Cert.Sift

end
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.SL.Sem

/-- From memories with the same image batch both programs run and leave the descriptors of that batch as their results. -/
theorem algebraic : @Cert.algebraic_KernelIdeal_ReferenceIdeal Cert.KernelIdeal.Gen.facts Cert.ReferenceIdeal.Gen.facts := by
  intro m g m' g' _ hagree
  refine ⟨fun c => Cert.Sift.sift (Cert.Sift.argK m c), Cert.Sift.run_kernel m g, ?_⟩
  refine (θ_run Cert.ReferenceIdeal.defs _ _).mono (fun r h c => ⟨(h c).1.trans ?_, (h c).2⟩) (Cert.Sift.run_reference m' g')
  exact congrArg Cert.Sift.sift (hagree c)

/-- The claim: the three programs' frames, the idealisation, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.Sift.frame_reference m ρ,
  trivial, algebraic⟩

end Cert.Proof

end
